-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x1024 : Shape := ⟨3, ![2, 512, 1024]⟩
abbrev S512x1024 : Shape := ⟨2, ![512, 1024]⟩
abbrev S8x8x128 : Shape := ⟨3, ![8, 8, 128]⟩
abbrev S2 : Shape := ⟨1, ![2]⟩
abbrev S7 : Shape := ⟨1, ![7]⟩
abbrev S_ : Shape := ⟨0, ![]⟩
abbrev S512x512 : Shape := ⟨2, ![512, 512]⟩
abbrev S1x512x1024 : Shape := ⟨3, ![1, 512, 1024]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S512x8192, .f32⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 5 33 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let c8_i32_12 : BitVec 32 := 8#32
  let v15 : BitVec 32 := Scalar.remsi v14 c8_i32_12
  let c512_i32 : BitVec 32 := 512#32
  let v18 : BitVec 32 := Scalar.muli v15 c512_i32
  let v19 : Index := Scalar.indexCast v18
  let c0 : Index := 0#32
  ![v19.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v16 : BitVec 32 := Scalar.addi v2 c1_i32_13
  let c8_i32_14 : BitVec 32 := 8#32
  let v17 : BitVec 32 := Scalar.remsi v16 c8_i32_14
  let c512_i32_15 : BitVec 32 := 512#32
  let v22 : BitVec 32 := Scalar.muli v17 c512_i32_15
  let v23 : Index := Scalar.indexCast v22
  let c0_16 : Index := 0#32
  ![v23.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_26 : BitVec 32 := 1#32
  let v33 : BitVec 32 := Scalar.muli v7 c1_i32_26
  let v34 : BitVec 32 := Scalar.addi c0_i32_27 v33
  v34.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_41 : BitVec 32 := 1#32
  let v50 : BitVec 32 := Scalar.muli v5 c1_i32_41
  let v51 : BitVec 32 := Scalar.addi c0_i32_42 v50
  v51.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_56 : BitVec 32 := 1#32
  let v67 : BitVec 32 := Scalar.muli v7 c1_i32_56
  let v68 : BitVec 32 := Scalar.addi c0_i32_57 v67
  v68.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_71 : BitVec 32 := 1#32
  let v84 : BitVec 32 := Scalar.muli v5 c1_i32_71
  let v85 : BitVec 32 := Scalar.addi c0_i32_72 v84
  v85.toNat
def k0_off3 (d0 : Dev nD) (c0_i32_77 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v94 : BitVec 32 := Scalar.addi v2 c16_i32
  let v95 : BitVec 32 := Scalar.subi v94 c0_i32_77
  let c2_i32_78 : BitVec 32 := 2#32
  let v96 : BitVec 32 := Scalar.subi v95 c2_i32_78
  let c8_i32_79 : BitVec 32 := 8#32
  let v97 : BitVec 32 := Scalar.remsi v96 c8_i32_79
  let c512_i32_80 : BitVec 32 := 512#32
  let v98 : BitVec 32 := Scalar.muli v97 c512_i32_80
  let v99 : Index := Scalar.indexCast v98
  let c0_81 : Index := 0#32
  ![v99.toNat, 0]
def k0_off4 (d0 : Dev nD) (c0_i32_82 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v102 : BitVec 32 := Scalar.addi v2 c0_i32_82
  let c2_i32_83 : BitVec 32 := 2#32
  let v103 : BitVec 32 := Scalar.addi v102 c2_i32_83
  let c8_i32_84 : BitVec 32 := 8#32
  let v104 : BitVec 32 := Scalar.remsi v103 c8_i32_84
  let c512_i32_85 : BitVec 32 := 512#32
  let v105 : BitVec 32 := Scalar.muli v104 c512_i32_85
  let v106 : Index := Scalar.indexCast v105
  let c0_86 : Index := 0#32
  ![v106.toNat, 0]
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_119 : BitVec 32 := 1#32
  let v138 : BitVec 32 := Scalar.muli v5 c1_i32_119
  let v139 : BitVec 32 := Scalar.addi c0_i32_120 v138
  v139.toNat
def k0_dev8 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_127 : BitVec 32 := 1#32
  let v140 : BitVec 32 := Scalar.muli v7 c1_i32_127
  let v141 : BitVec 32 := Scalar.addi c0_i32_128 v140
  v141.toNat
def k0_dev9 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_166 : BitVec 32 := 1#32
  let v179 : BitVec 32 := Scalar.muli v7 c1_i32_166
  let v180 : BitVec 32 := Scalar.addi c0_i32_167 v179
  v180.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_174 : BitVec 32 := 1#32
  let v181 : BitVec 32 := Scalar.muli v5 c1_i32_174
  let v182 : BitVec 32 := Scalar.addi c0_i32_175 v181
  v182.toNat
def k0_dev11 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_213 : BitVec 32 := 1#32
  let v220 : BitVec 32 := Scalar.muli v5 c1_i32_213
  let v221 : BitVec 32 := Scalar.addi c0_i32_214 v220
  v221.toNat
def k0_dev12 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_221 : BitVec 32 := 1#32
  let v222 : BitVec 32 := Scalar.muli v7 c1_i32_221
  let v223 : BitVec 32 := Scalar.addi c0_i32_222 v222
  v223.toNat
def k0_dev13 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_260 : BitVec 32 := 1#32
  let v261 : BitVec 32 := Scalar.muli v7 c1_i32_260
  let v262 : BitVec 32 := Scalar.addi c0_i32_261 v261
  v262.toNat
def k0_dev14 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_268 : BitVec 32 := 1#32
  let v263 : BitVec 32 := Scalar.muli v5 c1_i32_268
  let v264 : BitVec 32 := Scalar.addi c0_i32_269 v263
  v264.toNat
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_318 : BitVec 32 := 1#32
  let v317 : BitVec 32 := Scalar.muli v5 c1_i32_318
  let v318 : BitVec 32 := Scalar.addi c0_i32_319 v317
  v318.toNat
def k0_dev16 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_326 : BitVec 32 := 1#32
  let v319 : BitVec 32 := Scalar.muli v7 c1_i32_326
  let v320 : BitVec 32 := Scalar.addi c0_i32_327 v319
  v320.toNat
def k0_dev17 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_365 : BitVec 32 := 1#32
  let v358 : BitVec 32 := Scalar.muli v7 c1_i32_365
  let v359 : BitVec 32 := Scalar.addi c0_i32_366 v358
  v359.toNat
def k0_dev18 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_373 : BitVec 32 := 1#32
  let v360 : BitVec 32 := Scalar.muli v5 c1_i32_373
  let v361 : BitVec 32 := Scalar.addi c0_i32_374 v360
  v361.toNat
def k0_dev19 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_412 : BitVec 32 := 1#32
  let v399 : BitVec 32 := Scalar.muli v5 c1_i32_412
  let v400 : BitVec 32 := Scalar.addi c0_i32_413 v399
  v400.toNat
def k0_dev20 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_420 : BitVec 32 := 1#32
  let v401 : BitVec 32 := Scalar.muli v7 c1_i32_420
  let v402 : BitVec 32 := Scalar.addi c0_i32_421 v401
  v402.toNat
def k0_dev21 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_459 : BitVec 32 := 1#32
  let v440 : BitVec 32 := Scalar.muli v7 c1_i32_459
  let v441 : BitVec 32 := Scalar.addi c0_i32_460 v440
  v441.toNat
def k0_dev22 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_467 : BitVec 32 := 1#32
  let v442 : BitVec 32 := Scalar.muli v5 c1_i32_467
  let v443 : BitVec 32 := Scalar.addi c0_i32_468 v442
  v443.toNat
def k0_dev23 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_517 : BitVec 32 := 1#32
  let v496 : BitVec 32 := Scalar.muli v5 c1_i32_517
  let v497 : BitVec 32 := Scalar.addi c0_i32_518 v496
  v497.toNat
def k0_dev24 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_525 : BitVec 32 := 1#32
  let v498 : BitVec 32 := Scalar.muli v7 c1_i32_525
  let v499 : BitVec 32 := Scalar.addi c0_i32_526 v498
  v499.toNat
def k0_dev25 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_564 : BitVec 32 := 1#32
  let v537 : BitVec 32 := Scalar.muli v7 c1_i32_564
  let v538 : BitVec 32 := Scalar.addi c0_i32_565 v537
  v538.toNat
def k0_dev26 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_572 : BitVec 32 := 1#32
  let v539 : BitVec 32 := Scalar.muli v5 c1_i32_572
  let v540 : BitVec 32 := Scalar.addi c0_i32_573 v539
  v540.toNat
def k0_dev27 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_611 : BitVec 32 := 1#32
  let v578 : BitVec 32 := Scalar.muli v5 c1_i32_611
  let v579 : BitVec 32 := Scalar.addi c0_i32_612 v578
  v579.toNat
def k0_dev28 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_619 : BitVec 32 := 1#32
  let v580 : BitVec 32 := Scalar.muli v7 c1_i32_619
  let v581 : BitVec 32 := Scalar.addi c0_i32_620 v580
  v581.toNat
def k0_dev29 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_658 : BitVec 32 := 1#32
  let v619 : BitVec 32 := Scalar.muli v7 c1_i32_658
  let v620 : BitVec 32 := Scalar.addi c0_i32_659 v619
  v620.toNat
def k0_dev30 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_666 : BitVec 32 := 1#32
  let v621 : BitVec 32 := Scalar.muli v5 c1_i32_666
  let v622 : BitVec 32 := Scalar.addi c0_i32_667 v621
  v622.toNat
def k0_dev31 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_715 : BitVec 32 := 1#32
  let v675 : BitVec 32 := Scalar.muli v5 c1_i32_715
  let v676 : BitVec 32 := Scalar.addi c0_i32_716 v675
  v676.toNat
def k0_dev32 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_723 : BitVec 32 := 1#32
  let v677 : BitVec 32 := Scalar.muli v7 c1_i32_723
  let v678 : BitVec 32 := Scalar.addi c0_i32_724 v677
  v678.toNat
def k0_dev33 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_762 : BitVec 32 := 1#32
  let v716 : BitVec 32 := Scalar.muli v7 c1_i32_762
  let v717 : BitVec 32 := Scalar.addi c0_i32_763 v716
  v717.toNat
def k0_dev34 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_770 : BitVec 32 := 1#32
  let v718 : BitVec 32 := Scalar.muli v5 c1_i32_770
  let v719 : BitVec 32 := Scalar.addi c0_i32_771 v718
  v719.toNat
def k0_dev35 (d0 : Dev nD) : Nat :=
  let c0_i32_810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_809 : BitVec 32 := 1#32
  let v757 : BitVec 32 := Scalar.muli v5 c1_i32_809
  let v758 : BitVec 32 := Scalar.addi c0_i32_810 v757
  v758.toNat
def k0_dev36 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_817 : BitVec 32 := 1#32
  let v759 : BitVec 32 := Scalar.muli v7 c1_i32_817
  let v760 : BitVec 32 := Scalar.addi c0_i32_818 v759
  v760.toNat
def k0_dev37 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_856 : BitVec 32 := 1#32
  let v798 : BitVec 32 := Scalar.muli v7 c1_i32_856
  let v799 : BitVec 32 := Scalar.addi c0_i32_857 v798
  v799.toNat
def k0_dev38 (d0 : Dev nD) : Nat :=
  let c0_i32_865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_864 : BitVec 32 := 1#32
  let v800 : BitVec 32 := Scalar.muli v5 c1_i32_864
  let v801 : BitVec 32 := Scalar.addi c0_i32_865 v800
  v801.toNat
def k0_dev39 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_913 : BitVec 32 := 1#32
  let v854 : BitVec 32 := Scalar.muli v5 c1_i32_913
  let v855 : BitVec 32 := Scalar.addi c0_i32_914 v854
  v855.toNat
def k0_dev40 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_921 : BitVec 32 := 1#32
  let v856 : BitVec 32 := Scalar.muli v7 c1_i32_921
  let v857 : BitVec 32 := Scalar.addi c0_i32_922 v856
  v857.toNat
def k0_dev41 (d0 : Dev nD) : Nat :=
  let c0_i32_961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_960 : BitVec 32 := 1#32
  let v895 : BitVec 32 := Scalar.muli v7 c1_i32_960
  let v896 : BitVec 32 := Scalar.addi c0_i32_961 v895
  v896.toNat
def k0_dev42 (d0 : Dev nD) : Nat :=
  let c0_i32_969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_968 : BitVec 32 := 1#32
  let v897 : BitVec 32 := Scalar.muli v5 c1_i32_968
  let v898 : BitVec 32 := Scalar.addi c0_i32_969 v897
  v898.toNat
def k0_dev43 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1007 : BitVec 32 := 1#32
  let v936 : BitVec 32 := Scalar.muli v5 c1_i32_1007
  let v937 : BitVec 32 := Scalar.addi c0_i32_1008 v936
  v937.toNat
def k0_dev44 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1015 : BitVec 32 := 1#32
  let v938 : BitVec 32 := Scalar.muli v7 c1_i32_1015
  let v939 : BitVec 32 := Scalar.addi c0_i32_1016 v938
  v939.toNat
def k0_dev45 (d0 : Dev nD) : Nat :=
  let c0_i32_1055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1054 : BitVec 32 := 1#32
  let v977 : BitVec 32 := Scalar.muli v7 c1_i32_1054
  let v978 : BitVec 32 := Scalar.addi c0_i32_1055 v977
  v978.toNat
def k0_dev46 (d0 : Dev nD) : Nat :=
  let c0_i32_1063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1062 : BitVec 32 := 1#32
  let v979 : BitVec 32 := Scalar.muli v5 c1_i32_1062
  let v980 : BitVec 32 := Scalar.addi c0_i32_1063 v979
  v980.toNat
def k0_dev47 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1111 : BitVec 32 := 1#32
  let v1033 : BitVec 32 := Scalar.muli v5 c1_i32_1111
  let v1034 : BitVec 32 := Scalar.addi c0_i32_1112 v1033
  v1034.toNat
def k0_dev48 (d0 : Dev nD) : Nat :=
  let c0_i32_1120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1119 : BitVec 32 := 1#32
  let v1035 : BitVec 32 := Scalar.muli v7 c1_i32_1119
  let v1036 : BitVec 32 := Scalar.addi c0_i32_1120 v1035
  v1036.toNat
def k0_dev49 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1158 : BitVec 32 := 1#32
  let v1074 : BitVec 32 := Scalar.muli v7 c1_i32_1158
  let v1075 : BitVec 32 := Scalar.addi c0_i32_1159 v1074
  v1075.toNat
def k0_dev50 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1166 : BitVec 32 := 1#32
  let v1076 : BitVec 32 := Scalar.muli v5 c1_i32_1166
  let v1077 : BitVec 32 := Scalar.addi c0_i32_1167 v1076
  v1077.toNat
def k0_dev51 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1205 : BitVec 32 := 1#32
  let v1115 : BitVec 32 := Scalar.muli v5 c1_i32_1205
  let v1116 : BitVec 32 := Scalar.addi c0_i32_1206 v1115
  v1116.toNat
def k0_dev52 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1213 : BitVec 32 := 1#32
  let v1117 : BitVec 32 := Scalar.muli v7 c1_i32_1213
  let v1118 : BitVec 32 := Scalar.addi c0_i32_1214 v1117
  v1118.toNat
def k0_dev53 (d0 : Dev nD) : Nat :=
  let c0_i32_1253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1252 : BitVec 32 := 1#32
  let v1156 : BitVec 32 := Scalar.muli v7 c1_i32_1252
  let v1157 : BitVec 32 := Scalar.addi c0_i32_1253 v1156
  v1157.toNat
def k0_dev54 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1260 : BitVec 32 := 1#32
  let v1158 : BitVec 32 := Scalar.muli v5 c1_i32_1260
  let v1159 : BitVec 32 := Scalar.addi c0_i32_1261 v1158
  v1159.toNat
def k0_dev55 (d0 : Dev nD) : Nat :=
  let c0_i32_1316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1315 : BitVec 32 := 1#32
  let v1224 : BitVec 32 := Scalar.muli v5 c1_i32_1315
  let v1225 : BitVec 32 := Scalar.addi c0_i32_1316 v1224
  v1225.toNat
def k0_dev56 (d0 : Dev nD) : Nat :=
  let c0_i32_1329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1328 : BitVec 32 := 1#32
  let v1233 : BitVec 32 := Scalar.muli v7 c1_i32_1328
  let v1234 : BitVec 32 := Scalar.addi c0_i32_1329 v1233
  v1234.toNat
def k0_dev57 (d0 : Dev nD) : Nat :=
  let c0_i32_1369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1368 : BitVec 32 := 1#32
  let v1276 : BitVec 32 := Scalar.muli v7 c1_i32_1368
  let v1277 : BitVec 32 := Scalar.addi c0_i32_1369 v1276
  v1277.toNat
def k0_dev58 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1381 : BitVec 32 := 1#32
  let v1285 : BitVec 32 := Scalar.muli v5 c1_i32_1381
  let v1286 : BitVec 32 := Scalar.addi c0_i32_1382 v1285
  v1286.toNat
def k0_dev59 (d0 : Dev nD) : Nat :=
  let c0_i32_1422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1421 : BitVec 32 := 1#32
  let v1328 : BitVec 32 := Scalar.muli v5 c1_i32_1421
  let v1329 : BitVec 32 := Scalar.addi c0_i32_1422 v1328
  v1329.toNat
def k0_dev60 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1434 : BitVec 32 := 1#32
  let v1337 : BitVec 32 := Scalar.muli v7 c1_i32_1434
  let v1338 : BitVec 32 := Scalar.addi c0_i32_1435 v1337
  v1338.toNat
def k0_dev61 (d0 : Dev nD) : Nat :=
  let c0_i32_1475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1474 : BitVec 32 := 1#32
  let v1380 : BitVec 32 := Scalar.muli v7 c1_i32_1474
  let v1381 : BitVec 32 := Scalar.addi c0_i32_1475 v1380
  v1381.toNat
def k0_dev62 (d0 : Dev nD) : Nat :=
  let c0_i32_1488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1487 : BitVec 32 := 1#32
  let v1389 : BitVec 32 := Scalar.muli v5 c1_i32_1487
  let v1390 : BitVec 32 := Scalar.addi c0_i32_1488 v1389
  v1390.toNat
def k0_dev63 (d0 : Dev nD) : Nat :=
  let c0_i32_1538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1537 : BitVec 32 := 1#32
  let v1443 : BitVec 32 := Scalar.muli v5 c1_i32_1537
  let v1444 : BitVec 32 := Scalar.addi c0_i32_1538 v1443
  v1444.toNat
def k0_dev64 (d0 : Dev nD) : Nat :=
  let c0_i32_1546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1545 : BitVec 32 := 1#32
  let v1445 : BitVec 32 := Scalar.muli v7 c1_i32_1545
  let v1446 : BitVec 32 := Scalar.addi c0_i32_1546 v1445
  v1446.toNat
def k0_dev65 (d0 : Dev nD) : Nat :=
  let c0_i32_1585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1584 : BitVec 32 := 1#32
  let v1484 : BitVec 32 := Scalar.muli v7 c1_i32_1584
  let v1485 : BitVec 32 := Scalar.addi c0_i32_1585 v1484
  v1485.toNat
def k0_dev66 (d0 : Dev nD) : Nat :=
  let c0_i32_1593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1592 : BitVec 32 := 1#32
  let v1486 : BitVec 32 := Scalar.muli v5 c1_i32_1592
  let v1487 : BitVec 32 := Scalar.addi c0_i32_1593 v1486
  v1487.toNat
def k0_dev67 (d0 : Dev nD) : Nat :=
  let c0_i32_1632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1631 : BitVec 32 := 1#32
  let v1525 : BitVec 32 := Scalar.muli v5 c1_i32_1631
  let v1526 : BitVec 32 := Scalar.addi c0_i32_1632 v1525
  v1526.toNat
def k0_dev68 (d0 : Dev nD) : Nat :=
  let c0_i32_1640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1639 : BitVec 32 := 1#32
  let v1527 : BitVec 32 := Scalar.muli v7 c1_i32_1639
  let v1528 : BitVec 32 := Scalar.addi c0_i32_1640 v1527
  v1528.toNat
def k0_dev69 (d0 : Dev nD) : Nat :=
  let c0_i32_1679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1678 : BitVec 32 := 1#32
  let v1566 : BitVec 32 := Scalar.muli v7 c1_i32_1678
  let v1567 : BitVec 32 := Scalar.addi c0_i32_1679 v1566
  v1567.toNat
def k0_dev70 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1686 : BitVec 32 := 1#32
  let v1568 : BitVec 32 := Scalar.muli v5 c1_i32_1686
  let v1569 : BitVec 32 := Scalar.addi c0_i32_1687 v1568
  v1569.toNat
def k0_dev71 (d0 : Dev nD) : Nat :=
  let c0_i32_1737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1736 : BitVec 32 := 1#32
  let v1622 : BitVec 32 := Scalar.muli v5 c1_i32_1736
  let v1623 : BitVec 32 := Scalar.addi c0_i32_1737 v1622
  v1623.toNat
def k0_dev72 (d0 : Dev nD) : Nat :=
  let c0_i32_1745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1744 : BitVec 32 := 1#32
  let v1624 : BitVec 32 := Scalar.muli v7 c1_i32_1744
  let v1625 : BitVec 32 := Scalar.addi c0_i32_1745 v1624
  v1625.toNat
def k0_dev73 (d0 : Dev nD) : Nat :=
  let c0_i32_1784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1783 : BitVec 32 := 1#32
  let v1663 : BitVec 32 := Scalar.muli v7 c1_i32_1783
  let v1664 : BitVec 32 := Scalar.addi c0_i32_1784 v1663
  v1664.toNat
def k0_dev74 (d0 : Dev nD) : Nat :=
  let c0_i32_1792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1791 : BitVec 32 := 1#32
  let v1665 : BitVec 32 := Scalar.muli v5 c1_i32_1791
  let v1666 : BitVec 32 := Scalar.addi c0_i32_1792 v1665
  v1666.toNat
def k0_dev75 (d0 : Dev nD) : Nat :=
  let c0_i32_1831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1830 : BitVec 32 := 1#32
  let v1704 : BitVec 32 := Scalar.muli v5 c1_i32_1830
  let v1705 : BitVec 32 := Scalar.addi c0_i32_1831 v1704
  v1705.toNat
def k0_dev76 (d0 : Dev nD) : Nat :=
  let c0_i32_1839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1838 : BitVec 32 := 1#32
  let v1706 : BitVec 32 := Scalar.muli v7 c1_i32_1838
  let v1707 : BitVec 32 := Scalar.addi c0_i32_1839 v1706
  v1707.toNat
def k0_dev77 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1877 : BitVec 32 := 1#32
  let v1745 : BitVec 32 := Scalar.muli v7 c1_i32_1877
  let v1746 : BitVec 32 := Scalar.addi c0_i32_1878 v1745
  v1746.toNat
def k0_dev78 (d0 : Dev nD) : Nat :=
  let c0_i32_1886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1885 : BitVec 32 := 1#32
  let v1747 : BitVec 32 := Scalar.muli v5 c1_i32_1885
  let v1748 : BitVec 32 := Scalar.addi c0_i32_1886 v1747
  v1748.toNat
def k0_dev79 (d0 : Dev nD) : Nat :=
  let c0_i32_1936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1935 : BitVec 32 := 1#32
  let v1801 : BitVec 32 := Scalar.muli v5 c1_i32_1935
  let v1802 : BitVec 32 := Scalar.addi c0_i32_1936 v1801
  v1802.toNat
def k0_dev80 (d0 : Dev nD) : Nat :=
  let c0_i32_1944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1943 : BitVec 32 := 1#32
  let v1803 : BitVec 32 := Scalar.muli v7 c1_i32_1943
  let v1804 : BitVec 32 := Scalar.addi c0_i32_1944 v1803
  v1804.toNat
def k0_dev81 (d0 : Dev nD) : Nat :=
  let c0_i32_1983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1982 : BitVec 32 := 1#32
  let v1842 : BitVec 32 := Scalar.muli v7 c1_i32_1982
  let v1843 : BitVec 32 := Scalar.addi c0_i32_1983 v1842
  v1843.toNat
def k0_dev82 (d0 : Dev nD) : Nat :=
  let c0_i32_1991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1990 : BitVec 32 := 1#32
  let v1844 : BitVec 32 := Scalar.muli v5 c1_i32_1990
  let v1845 : BitVec 32 := Scalar.addi c0_i32_1991 v1844
  v1845.toNat
def k0_dev83 (d0 : Dev nD) : Nat :=
  let c0_i32_2030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2029 : BitVec 32 := 1#32
  let v1883 : BitVec 32 := Scalar.muli v5 c1_i32_2029
  let v1884 : BitVec 32 := Scalar.addi c0_i32_2030 v1883
  v1884.toNat
def k0_dev84 (d0 : Dev nD) : Nat :=
  let c0_i32_2038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2037 : BitVec 32 := 1#32
  let v1885 : BitVec 32 := Scalar.muli v7 c1_i32_2037
  let v1886 : BitVec 32 := Scalar.addi c0_i32_2038 v1885
  v1886.toNat
def k0_dev85 (d0 : Dev nD) : Nat :=
  let c0_i32_2077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2076 : BitVec 32 := 1#32
  let v1924 : BitVec 32 := Scalar.muli v7 c1_i32_2076
  let v1925 : BitVec 32 := Scalar.addi c0_i32_2077 v1924
  v1925.toNat
def k0_dev86 (d0 : Dev nD) : Nat :=
  let c0_i32_2085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2084 : BitVec 32 := 1#32
  let v1926 : BitVec 32 := Scalar.muli v5 c1_i32_2084
  let v1927 : BitVec 32 := Scalar.addi c0_i32_2085 v1926
  v1927.toNat
def k0_dev87 (d0 : Dev nD) : Nat :=
  let c0_i32_2135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2134 : BitVec 32 := 1#32
  let v1980 : BitVec 32 := Scalar.muli v5 c1_i32_2134
  let v1981 : BitVec 32 := Scalar.addi c0_i32_2135 v1980
  v1981.toNat
def k0_dev88 (d0 : Dev nD) : Nat :=
  let c0_i32_2143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2142 : BitVec 32 := 1#32
  let v1982 : BitVec 32 := Scalar.muli v7 c1_i32_2142
  let v1983 : BitVec 32 := Scalar.addi c0_i32_2143 v1982
  v1983.toNat
def k0_dev89 (d0 : Dev nD) : Nat :=
  let c0_i32_2182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2181 : BitVec 32 := 1#32
  let v2021 : BitVec 32 := Scalar.muli v7 c1_i32_2181
  let v2022 : BitVec 32 := Scalar.addi c0_i32_2182 v2021
  v2022.toNat
def k0_dev90 (d0 : Dev nD) : Nat :=
  let c0_i32_2190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2189 : BitVec 32 := 1#32
  let v2023 : BitVec 32 := Scalar.muli v5 c1_i32_2189
  let v2024 : BitVec 32 := Scalar.addi c0_i32_2190 v2023
  v2024.toNat
def k0_dev91 (d0 : Dev nD) : Nat :=
  let c0_i32_2229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2228 : BitVec 32 := 1#32
  let v2062 : BitVec 32 := Scalar.muli v5 c1_i32_2228
  let v2063 : BitVec 32 := Scalar.addi c0_i32_2229 v2062
  v2063.toNat
def k0_dev92 (d0 : Dev nD) : Nat :=
  let c0_i32_2237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2236 : BitVec 32 := 1#32
  let v2064 : BitVec 32 := Scalar.muli v7 c1_i32_2236
  let v2065 : BitVec 32 := Scalar.addi c0_i32_2237 v2064
  v2065.toNat
def k0_dev93 (d0 : Dev nD) : Nat :=
  let c0_i32_2276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2275 : BitVec 32 := 1#32
  let v2103 : BitVec 32 := Scalar.muli v7 c1_i32_2275
  let v2104 : BitVec 32 := Scalar.addi c0_i32_2276 v2103
  v2104.toNat
def k0_dev94 (d0 : Dev nD) : Nat :=
  let c0_i32_2284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2283 : BitVec 32 := 1#32
  let v2105 : BitVec 32 := Scalar.muli v5 c1_i32_2283
  let v2106 : BitVec 32 := Scalar.addi c0_i32_2284 v2105
  v2106.toNat
def k0_dev95 (d0 : Dev nD) : Nat :=
  let c0_i32_2334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2333 : BitVec 32 := 1#32
  let v2159 : BitVec 32 := Scalar.muli v5 c1_i32_2333
  let v2160 : BitVec 32 := Scalar.addi c0_i32_2334 v2159
  v2160.toNat
def k0_dev96 (d0 : Dev nD) : Nat :=
  let c0_i32_2342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2341 : BitVec 32 := 1#32
  let v2161 : BitVec 32 := Scalar.muli v7 c1_i32_2341
  let v2162 : BitVec 32 := Scalar.addi c0_i32_2342 v2161
  v2162.toNat
def k0_dev97 (d0 : Dev nD) : Nat :=
  let c0_i32_2381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2380 : BitVec 32 := 1#32
  let v2200 : BitVec 32 := Scalar.muli v7 c1_i32_2380
  let v2201 : BitVec 32 := Scalar.addi c0_i32_2381 v2200
  v2201.toNat
def k0_dev98 (d0 : Dev nD) : Nat :=
  let c0_i32_2389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2388 : BitVec 32 := 1#32
  let v2202 : BitVec 32 := Scalar.muli v5 c1_i32_2388
  let v2203 : BitVec 32 := Scalar.addi c0_i32_2389 v2202
  v2203.toNat
def k0_dev99 (d0 : Dev nD) : Nat :=
  let c0_i32_2428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2427 : BitVec 32 := 1#32
  let v2241 : BitVec 32 := Scalar.muli v5 c1_i32_2427
  let v2242 : BitVec 32 := Scalar.addi c0_i32_2428 v2241
  v2242.toNat
def k0_dev100 (d0 : Dev nD) : Nat :=
  let c0_i32_2436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2435 : BitVec 32 := 1#32
  let v2243 : BitVec 32 := Scalar.muli v7 c1_i32_2435
  let v2244 : BitVec 32 := Scalar.addi c0_i32_2436 v2243
  v2244.toNat
def k0_dev101 (d0 : Dev nD) : Nat :=
  let c0_i32_2475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2474 : BitVec 32 := 1#32
  let v2282 : BitVec 32 := Scalar.muli v7 c1_i32_2474
  let v2283 : BitVec 32 := Scalar.addi c0_i32_2475 v2282
  v2283.toNat
def k0_dev102 (d0 : Dev nD) : Nat :=
  let c0_i32_2483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2482 : BitVec 32 := 1#32
  let v2284 : BitVec 32 := Scalar.muli v5 c1_i32_2482
  let v2285 : BitVec 32 := Scalar.addi c0_i32_2483 v2284
  v2285.toNat
def k0_dev103 (d0 : Dev nD) : Nat :=
  let c0_i32_2533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2532 : BitVec 32 := 1#32
  let v2338 : BitVec 32 := Scalar.muli v5 c1_i32_2532
  let v2339 : BitVec 32 := Scalar.addi c0_i32_2533 v2338
  v2339.toNat
def k0_dev104 (d0 : Dev nD) : Nat :=
  let c0_i32_2541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2540 : BitVec 32 := 1#32
  let v2340 : BitVec 32 := Scalar.muli v7 c1_i32_2540
  let v2341 : BitVec 32 := Scalar.addi c0_i32_2541 v2340
  v2341.toNat
def k0_dev105 (d0 : Dev nD) : Nat :=
  let c0_i32_2580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2579 : BitVec 32 := 1#32
  let v2379 : BitVec 32 := Scalar.muli v7 c1_i32_2579
  let v2380 : BitVec 32 := Scalar.addi c0_i32_2580 v2379
  v2380.toNat
def k0_dev106 (d0 : Dev nD) : Nat :=
  let c0_i32_2588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2587 : BitVec 32 := 1#32
  let v2381 : BitVec 32 := Scalar.muli v5 c1_i32_2587
  let v2382 : BitVec 32 := Scalar.addi c0_i32_2588 v2381
  v2382.toNat
def k0_dev107 (d0 : Dev nD) : Nat :=
  let c0_i32_2627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2626 : BitVec 32 := 1#32
  let v2420 : BitVec 32 := Scalar.muli v5 c1_i32_2626
  let v2421 : BitVec 32 := Scalar.addi c0_i32_2627 v2420
  v2421.toNat
def k0_dev108 (d0 : Dev nD) : Nat :=
  let c0_i32_2635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2634 : BitVec 32 := 1#32
  let v2422 : BitVec 32 := Scalar.muli v7 c1_i32_2634
  let v2423 : BitVec 32 := Scalar.addi c0_i32_2635 v2422
  v2423.toNat
def k0_dev109 (d0 : Dev nD) : Nat :=
  let c0_i32_2674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2673 : BitVec 32 := 1#32
  let v2461 : BitVec 32 := Scalar.muli v7 c1_i32_2673
  let v2462 : BitVec 32 := Scalar.addi c0_i32_2674 v2461
  v2462.toNat
def k0_dev110 (d0 : Dev nD) : Nat :=
  let c0_i32_2682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2681 : BitVec 32 := 1#32
  let v2463 : BitVec 32 := Scalar.muli v5 c1_i32_2681
  let v2464 : BitVec 32 := Scalar.addi c0_i32_2682 v2463
  v2464.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2621 : Index := Scalar.indexCast v2
  let c0_2830 : Index := 0#32
  let c0_2831 : Index := 0#32
  ![v2621.toNat, 0, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2838 : BitVec 32 := 0#32
  let c0_i32_2839 : BitVec 32 := 0#32
  ![v2.toNat, 0, 0]
def k0_dev111 (d0 : Dev nD) : Nat :=
  let c0_i32_2837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2832 : BitVec 32 := 1#32
  let v2625 : BitVec 32 := Scalar.addi v2 c1_i32_2832
  let c8_i32_2833 : BitVec 32 := 8#32
  let v2626 : BitVec 32 := Scalar.remsi v2625 c8_i32_2833
  let c1_i32_2836 : BitVec 32 := 1#32
  let v2627 : BitVec 32 := Scalar.muli v2626 c1_i32_2836
  let v2628 : BitVec 32 := Scalar.addi c0_i32_2837 v2627
  v2628.toNat
def k0_dev112 (d0 : Dev nD) : Nat :=
  let c0_i32_2847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2842 : BitVec 32 := 2#32
  let v2637 : BitVec 32 := Scalar.addi v2 c2_i32_2842
  let c8_i32_2843 : BitVec 32 := 8#32
  let v2638 : BitVec 32 := Scalar.remsi v2637 c8_i32_2843
  let c1_i32_2846 : BitVec 32 := 1#32
  let v2639 : BitVec 32 := Scalar.muli v2638 c1_i32_2846
  let v2640 : BitVec 32 := Scalar.addi c0_i32_2847 v2639
  v2640.toNat
def k0_dev113 (d0 : Dev nD) : Nat :=
  let c0_i32_2857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2852 : BitVec 32 := 3#32
  let v2649 : BitVec 32 := Scalar.addi v2 c3_i32_2852
  let c8_i32_2853 : BitVec 32 := 8#32
  let v2650 : BitVec 32 := Scalar.remsi v2649 c8_i32_2853
  let c1_i32_2856 : BitVec 32 := 1#32
  let v2651 : BitVec 32 := Scalar.muli v2650 c1_i32_2856
  let v2652 : BitVec 32 := Scalar.addi c0_i32_2857 v2651
  v2652.toNat
def k0_dev114 (d0 : Dev nD) : Nat :=
  let c0_i32_2867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2862 : BitVec 32 := 4#32
  let v2661 : BitVec 32 := Scalar.addi v2 c4_i32_2862
  let c8_i32_2863 : BitVec 32 := 8#32
  let v2662 : BitVec 32 := Scalar.remsi v2661 c8_i32_2863
  let c1_i32_2866 : BitVec 32 := 1#32
  let v2663 : BitVec 32 := Scalar.muli v2662 c1_i32_2866
  let v2664 : BitVec 32 := Scalar.addi c0_i32_2867 v2663
  v2664.toNat
def k0_dev115 (d0 : Dev nD) : Nat :=
  let c0_i32_2877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2872 : BitVec 32 := 5#32
  let v2673 : BitVec 32 := Scalar.addi v2 c5_i32_2872
  let c8_i32_2873 : BitVec 32 := 8#32
  let v2674 : BitVec 32 := Scalar.remsi v2673 c8_i32_2873
  let c1_i32_2876 : BitVec 32 := 1#32
  let v2675 : BitVec 32 := Scalar.muli v2674 c1_i32_2876
  let v2676 : BitVec 32 := Scalar.addi c0_i32_2877 v2675
  v2676.toNat
def k0_dev116 (d0 : Dev nD) : Nat :=
  let c0_i32_2887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2882 : BitVec 32 := 6#32
  let v2685 : BitVec 32 := Scalar.addi v2 c6_i32_2882
  let c8_i32_2883 : BitVec 32 := 8#32
  let v2686 : BitVec 32 := Scalar.remsi v2685 c8_i32_2883
  let c1_i32_2886 : BitVec 32 := 1#32
  let v2687 : BitVec 32 := Scalar.muli v2686 c1_i32_2886
  let v2688 : BitVec 32 := Scalar.addi c0_i32_2887 v2687
  v2688.toNat
def k0_dev117 (d0 : Dev nD) : Nat :=
  let c0_i32_2896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v2697 : BitVec 32 := Scalar.addi v2 c7_i32
  let c8_i32_2892 : BitVec 32 := 8#32
  let v2698 : BitVec 32 := Scalar.remsi v2697 c8_i32_2892
  let c1_i32_2895 : BitVec 32 := 1#32
  let v2699 : BitVec 32 := Scalar.muli v2698 c1_i32_2895
  let v2700 : BitVec 32 := Scalar.addi c0_i32_2896 v2699
  v2700.toNat
def k0_off7 (d0 : Dev nD) (c1_i32_2902 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2901 : BitVec 32 := 8#32
  let v2709 : BitVec 32 := Scalar.addi v2 c8_i32_2901
  let v2710 : BitVec 32 := Scalar.subi v2709 c1_i32_2902
  let c8_i32_2903 : BitVec 32 := 8#32
  let v2711 : BitVec 32 := Scalar.remsi v2710 c8_i32_2903
  let c0_i32_2908 : BitVec 32 := 0#32
  let c0_i32_2909 : BitVec 32 := 0#32
  ![v2711.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Prog.lean ====
/- The kernel's body written once for a lane, a slot and a step: the printed body is a straight line of some thirteen
   hundred operations, which repeats one step fourteen times on four lanes. This module gives the step as a definition
   and shows that the printed body is its repetition. -/
module

public import proofs.«01_k».proof.Proof.Gen.KernelIdeal.Skeleton
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

/-- The programs a device's body is one of. -/
abbrev P (F : FTy → Type) [FloatOps F] := Prog (TpuEff nD τ sig (Elt F) Λ₀ .tc) PUnit

/-! ## Slots, columns and semaphores -/

/-- The slot a step's number picks: its parity. -/
def par (t : ℕ) : Fin 2 := ⟨t % 2, Nat.mod_lt t (by decide)⟩

theorem slot_inb : ∀ p : Fin 2, ∀ a, (![p.val, 0, 0] : Fin 3 → Nat) a + S1x512x1024.size a ≤ S2x512x1024.size a := by decide
theorem sem_inb : ∀ p : Fin 2, ∀ a, (![p.val] : Fin 1 → Nat) a + S1.size a ≤ S2.size a := by decide
theorem sem7_inb : ∀ p : Fin 7, ∀ a, (![p.val] : Fin 1 → Nat) a + S1.size a ≤ S7.size a := by decide
theorem col_inb (b : ℕ) (h : b + 1024 ≤ 8192) : ∀ a, (![0, b] : Fin 2 → Nat) a + S512x1024.size a ≤ S512x8192.size a := by
  intro a; match a with
  | 0 => exact Nat.le_refl 512
  | 1 => exact h

/-- The rectangle of slot `p` of a two-slot buffer. -/
abbrev slotRect (p : Fin 2) : Rect S2x512x1024 := Rect.unit (s := S2x512x1024) ![p.val, 0, 0] S1x512x1024.size (slot_inb p)
/-- The rectangle of the 1024 columns at `b`. -/
abbrev colRect (b : ℕ) (h : b + 1024 ≤ 8192) : Rect S512x8192 := Rect.unit (s := S512x8192) ![0, b] S512x1024.size (col_inb b h)
/-- The rectangle of a whole block of columns. -/
abbrev tmpRect : Rect S512x1024 := Rect.unit (s := S512x1024) ![0, 0] S512x1024.size inb_S512x1024_S512x1024_0_0

/-- Semaphore `p` of a pair. -/
abbrev semAt (ss : DmaSems sig S2) (p : Fin 2) : DmaSem sig :=
  ((ss.slice (Rect.unit (s := S2) ![p.val] S1.size (sem_inb p))).squeeze S_ squeezes_S1_S_).sem
/-- Semaphore `p` of the seven. -/
abbrev semAt7 (ss : DmaSems sig S7) (p : Fin 7) : DmaSem sig :=
  ((ss.slice (Rect.unit (s := S7) ![p.val] S1.size (sem7_inb p))).squeeze S_ squeezes_S1_S_).sem

theorem slot_packed : ∀ p : Fin 2, (slotRect p).PackedRows (EltTy.packing .bf16) := fun p => match p with
  | 0 => packedbf16_S2x512x1024_S1x512x1024_0_0_0
  | 1 => packedbf16_S2x512x1024_S1x512x1024_1_0_0
theorem slot_words : ∀ p : Fin 2, (slotRect p).WholeWords (EltTy.packing .bf16) := fun p => match p with
  | 0 => wordsbf16_S2x512x1024_S1x512x1024_0_0_0
  | 1 => wordsbf16_S2x512x1024_S1x512x1024_1_0_0

/-- A lane of the ring: its two-slot buffer, its scratch block, its semaphores, its columns and its direction. -/
structure Lane where
  /-- the two-slot buffer -/
  cm : Memref sig .tc .vmem S2x512x1024 .bf16
  hcm : cm.IsWhole
  /-- the scratch block -/
  tm : Memref sig .tc .vmem S512x1024 .f32
  /-- the departure semaphores -/
  ss : DmaSems sig S2
  /-- the arrival semaphores -/
  rs : DmaSems sig S2
  /-- the credit semaphore -/
  cr : Sem sig
  /-- the first column -/
  base : ℕ
  hbase : base + 1024 ≤ 4096
  /-- whether chunks travel to the right -/
  cw : Bool

/-- Slot `p` of a lane's buffer, as the transfers name it. -/
abbrev Lane.slot (L : Lane) (p : Fin 2) : Memref sig .tc .vmem S512x1024 .bf16 :=
  (L.cm.slice (slotRect p) (fun _ => rfl)).squeeze S512x1024 squeezes_S1x512x1024_S512x1024

theorem Lane.slot_exact (L : Lane) (p : Fin 2) : (L.slot p).view.WordExact :=
  (L.hcm.wordExact_slice rfl _ (slot_words p)).reshape _ _

/-- The device on the left and the device on the right. -/
abbrev devL (d : Dev nD) : Dev nD := ⟨k0_dev1 d, k0_dev1_lt d⟩
abbrev devR (d : Dev nD) : Dev nD := ⟨k0_dev2 d, k0_dev2_lt d⟩
/-- Where a lane sends, and whom it receives from. -/
abbrev Lane.dst (L : Lane) (d : Dev nD) : Dev nD := bif L.cw then devR d else devL d
abbrev Lane.src (L : Lane) (d : Dev nD) : Dev nD := bif L.cw then devL d else devR d

/-! ## The values -/

/-- A chunk of the left operand times a block of columns of the right one. -/
abbrev prod (x : Vec F S512x512 .f32) (w : Vec F S512x1024 .f32) : FVec F S512x1024 .f32 := k0_pay3 x w
/-- The running maximum, taken over one more block. -/
def resmax (am : F .f32) (r : FVec F S512x1024 .f32) : F .f32 :=
  Scalar.maximumf am (extractAt ![0, 0, 0] (shapeCast S1x1x1 (multiReduction .maximumf [1, 2] S1 (shapeCast S1x512x1024 r shapeCasts_S512x1024_S1x512x1024) 0xFF800000#32 reduces_S1x512x1024_S1 (.inl rfl) rfl) shapeCasts_S1_S1x1x1) inpos_S1x1x1_p0_0_0)

/-- Four things, one for each lane. -/
def four {α : Type} (a b c d : α) : Fin 4 → α
  | 0 => a
  | 1 => b
  | 2 => c
  | 3 => d

/-- The buffers that the lanes share. -/
structure Bufs where
  x : Memref sig .tc .vmem S4096x512 .f32
  w : Memref sig .tc .vmem S512x8192 .f32
  o : Memref sig .tc .vmem S512x8192 .f32
  am : Memref sig .tc .vmem S8x8x128 .f32
  sa : DmaSems sig S7
  ra : DmaSems sig S7
  lane : Fin 4 → Lane

variable (B : Bufs)

/-! ## One step -/

/-- Load a block of columns of the right operand. -/
abbrev loadW (b : ℕ) (h : b + 1024 ≤ 8192) (k : Vec F S512x1024 .f32 → P F) : P F :=
  .op (.load B.w (colRect b h).toLoadRect (View.loadsAt_vmem h_S512x1024)) k
/-- Load a block of columns of the result. -/
abbrev loadO (b : ℕ) (h : b + 1024 ≤ 8192) (k : Vec F S512x1024 .f32 → P F) : P F :=
  .op (.load B.o (colRect b h).toLoadRect (View.loadsAt_vmem h_S512x1024)) k
/-- Store a block of columns of the result. -/
abbrev storeO (b : ℕ) (h : b + 1024 ≤ 8192) (v : Vec F S512x1024 .f32) (k : P F) : P F :=
  .op (.store B.o (colRect b h) v Finset.univ (View.stores_vmem_bits_univ h_S512x1024 rfl) (.inl rfl)) fun _ => k
/-- Load a slot of a lane's buffer. -/
abbrev loadS (L : Lane) (p : Fin 2) (k : Vec F S1x512x1024 .bf16 → P F) : P F :=
  .op (.load L.cm (slotRect p).toLoadRect (View.loadsAt_vmem h_S1x512x1024)) k
/-- Store a slot of a lane's buffer. -/
abbrev storeS (L : Lane) (p : Fin 2) (v : Vec F S1x512x1024 .bf16) (k : P F) : P F :=
  .op (.store L.cm (slotRect p) v Finset.univ (View.stores_vmem h_S1x512x1024 (L.hcm.storeExact_slice rfl _ (slot_packed p)) (fun _ => rfl)) (.inl rfl)) fun _ => k
/-- Load a lane's scratch block. -/
abbrev loadT (L : Lane) (k : Vec F S512x1024 .f32 → P F) : P F :=
  .op (.load L.tm tmpRect.toLoadRect (View.loadsAt_vmem h_S512x1024)) k
/-- Store a lane's scratch block. -/
abbrev storeT (L : Lane) (v : Vec F S512x1024 .f32) (k : P F) : P F :=
  .op (.store L.tm tmpRect v Finset.univ (View.stores_vmem_bits_univ h_S512x1024 rfl) (.inl rfl)) fun _ => k
/-- Send slot `p` of a lane to the other slot downstream. -/
abbrev sendS (L : Lane) (d : Dev nD) (p p' : Fin 2) (k : P F) : P F :=
  .op (.enqueueDma (L.slot p) (.remote (Dev.tc (L.dst d)) (L.slot p') (.dma (semAt L.ss p))) (.dma (semAt L.rs p'))
    (L.slot_exact p) (L.slot_exact p') ⟨⟨rfl, Or.inl rfl⟩, trivial⟩) fun _ => k
/-- Wait for the arrival at slot `p`, or for the departure into it. -/
abbrev waitS (L : Lane) (s : DmaSem sig) (p p' : Fin 2) (k : P F) : P F :=
  .op (.waitDma2 s (L.slot p) (L.slot p') (L.slot_exact p) (L.slot_exact p')) fun _ => k
/-- Give the upstream neighbour its credit. -/
abbrev giveC (L : Lane) (d : Dev nD) (k : P F) : P F := .op (.semSignal (Dev.tc (L.src d)) L.cr 1) fun _ => k
/-- Take the downstream neighbour's credit. -/
abbrev takeC (L : Lane) (k : P F) : P F := .op (.semWait L.cr 1) fun _ => k

/-- Put the first partial product of a pass into slot `p`. -/
def initS (L : Lane) (b : ℕ) (h : b + 1024 ≤ 8192) (p : Fin 2) (x : Vec F S512x512 .f32) (k : P F) : P F :=
  loadW B b h fun w => loadS L p fun _ => storeS L p (k0_pay4 (prod x w)) k

theorem hcol (L : Lane) (t : ℕ) (h : t < 8) : L.base + 1024 ≤ 8192 := Nat.le_trans L.hbase (by decide)
theorem base_lo (L : Lane) : L.base + 1024 ≤ 8192 := Nat.le_trans L.hbase (by decide)
theorem base_hi (L : Lane) : L.base + 4096 + 1024 ≤ 8192 := by have := L.hbase; omega

/-- The first half of a step: the product with the chunk coming in, and the wait for it. -/
def recvS (L : Lane) (b : ℕ) (h : b + 1024 ≤ 8192) (p p' : Fin 2) (x : Vec F S512x512 .f32)
    (k : Vec F S1x512x1024 .bf16 → Vec F S512x1024 .f32 → P F) : P F :=
  loadW B b h fun w => loadT L fun _ => storeT L (k0_pay10 x w) <| waitS L (semAt L.rs p) p' p <|
    loadS L p fun v => loadT L fun u => k v u

/-- A step in the middle of a pass: add the incoming partial sum and hand it on. -/
def midS (L : Lane) (d : Dev nD) (b : ℕ) (h : b + 1024 ≤ 8192) (p p' : Fin 2) (x : Vec F S512x512 .f32) (k : P F) : P F :=
  recvS B L b h p p' x fun v u => loadS L p fun _ => storeS L p (k0_pay11 v u) <|
    waitS L (semAt L.ss p') p p' <| giveC L d <| takeC L <| sendS L d p p' k

/-- The step that ends the first pass and begins the second. -/
def turnS (L : Lane) (d : Dev nD) (x xi : Vec F S512x512 .f32) (am : F .f32) (k : F .f32 → P F) : P F :=
  recvS B L L.base (base_lo L) 1 0 x fun v u => loadO B L.base (base_lo L) fun _ => storeO B L.base (base_lo L) (k0_pay79 v u) <|
    waitS L (semAt L.ss 0) 1 0 <| giveC L d <| initS B L (L.base + 4096) (base_hi L) 1 xi <| takeC L <| sendS L d 1 0 <|
      k (resmax am (k0_pay79 v u))

/-- The step that ends the second pass. -/
def lastS (L : Lane) (x : Vec F S512x512 .f32) (am : F .f32) (k : F .f32 → P F) : P F :=
  recvS B L (L.base + 4096) (base_hi L) 0 1 x fun v u => loadO B (L.base + 4096) (base_hi L) fun _ =>
    storeO B (L.base + 4096) (base_hi L) (k0_pay79 v u) <|
    waitS L (semAt L.ss 1) 0 1 <| k (resmax am (k0_pay79 v u))

/-- A chunk of the left operand. -/
abbrev loadX (off : Fin 2 → ℕ) (h : ∀ a, off a + S512x512.size a ≤ S4096x512.size a) (k : Vec F S512x512 .f32 → P F) : P F :=
  .op (.load B.x (Rect.unit (s := S4096x512) off S512x512.size h).toLoadRect (View.loadsAt_vmem h_S512x512)) k

/-- The two chunks a step multiplies, one for each direction. -/
def loadXs (d : Dev nD) (s : Fin 7) (k : Vec F S512x512 .f32 → Vec F S512x512 .f32 → P F) : P F :=
  loadX B (k0_off3 d (BitVec.ofNat 32 s.val)) (k0_off3_inb d s) fun x₁ => loadX B (k0_off4 d (BitVec.ofNat 32 s.val)) (k0_off4_inb d s) fun x₂ => k x₁ x₂
/-- The two chunks a pass begins with. -/
def loadXi (d : Dev nD) (k : Vec F S512x512 .f32 → Vec F S512x512 .f32 → P F) : P F :=
  loadX B (k0_off1 d) (k0_off1_inb d) fun x₁ => loadX B (k0_off2 d) (k0_off2_inb d) fun x₂ => k x₁ x₂

/-- The chunk of a lane's own direction. -/
abbrev pick {α : Type} (L : Lane) (a b : α) : α := bif L.cw then a else b

/-- A middle step on every lane. -/
def midStep (d : Dev nD) (e : ℕ) (he : e ≤ 4096) (s : Fin 7) (p p' : Fin 2) (k : P F) : P F :=
  loadXs B d s fun x₁ x₂ =>
    let go (ℓ : Fin 4) (k : P F) : P F :=
      midS B (B.lane ℓ) d ((B.lane ℓ).base + e) (by have := (B.lane ℓ).hbase; omega) p p' (pick (B.lane ℓ) x₁ x₂) k
    go 0 <| go 1 <| go 2 <| go 3 k

/-- Middle steps `s`, `s + 1`, … of a pass, `n` of them. -/
def midSteps (d : Dev nD) (e : ℕ) (he : e ≤ 4096) (q : ℕ) (k : P F) : (n s : ℕ) → (h : s + n ≤ 7) → P F
  | 0, _, _ => k
  | n + 1, s, h => midStep B d e he ⟨s, by omega⟩ (par (q + s + 1)) (par (q + s)) (midSteps d e he q k n (s + 1) (by omega))

/-- The middle of the body: the step between the two passes. -/
def turnStep (d : Dev nD) (am : F .f32) (k : F .f32 → P F) : P F :=
  loadXs B d 6 fun x₁ x₂ => loadXi B d fun y₁ y₂ =>
    let go (ℓ : Fin 4) (am : F .f32) (k : F .f32 → P F) : P F := turnS B (B.lane ℓ) d (pick (B.lane ℓ) x₁ x₂) (pick (B.lane ℓ) y₁ y₂) am k
    go 0 am fun am => go 1 am fun am => go 2 am fun am => go 3 am k

/-- The step that ends the second pass, on every lane. -/
def lastStep (d : Dev nD) (am : F .f32) (k : F .f32 → P F) : P F :=
  loadXs B d 6 fun x₁ x₂ =>
    let go (ℓ : Fin 4) (am : F .f32) (k : F .f32 → P F) : P F := lastS B (B.lane ℓ) (pick (B.lane ℓ) x₁ x₂) am k
    go 0 am fun am => go 1 am fun am => go 2 am fun am => go 3 am k

/-! ## The ends of the body -/

/-- The barrier semaphore. -/
abbrev barS : Sem sig := (SemArray.scalar (sig.barrier 0 rfl) : Sems sig S_).sem

/-- The beginning: meet both neighbours, then begin the first pass on every lane. -/
def begins (d : Dev nD) (k : P F) : P F :=
  .op (.semSignal (Dev.tc (devL d)) barS 1) fun _ => .op (.semSignal (Dev.tc (devR d)) barS 1) fun _ => .op (.semWait barS 2) fun _ =>
  loadXi B d fun y₁ y₂ =>
    let go (ℓ : Fin 4) (k : P F) : P F :=
      initS B (B.lane ℓ) (B.lane ℓ).base (base_lo _) 0 (pick (B.lane ℓ) y₁ y₂) <| sendS (B.lane ℓ) d 0 1 k
    go 0 <| go 1 <| go 2 <| go 3 k

/-- A row of the table of maxima, as the transfers name it. -/
abbrev row (off : Fin 3 → ℕ) (h : ∀ a, off a + S1x8x128.size a ≤ S8x8x128.size a) : Memref sig .tc .vmem S8x128 .f32 :=
  (B.am.slice (Rect.unit (s := S8x8x128) off S1x8x128.size h) (fun _ => rfl)).squeeze S8x128 squeezes_S1x8x128_S8x128

/-- The number of the device `j` places to the right, as the body computes it. -/
def devAt (d : Dev nD) (j : BitVec 32) : ℕ :=
  (Scalar.addi 0#32 (Scalar.muli (Scalar.remsi (Scalar.addi (Scalar.remsi (Scalar.divsi (Dev.word d) 1#32) 8#32) j) 8#32) 1#32)).toNat
theorem devAt_lt : ∀ (d : Dev nD) (j : Fin 7), devAt d (BitVec.ofNat 32 (1 + j.val)) < nD := by decide
abbrev peer (d : Dev nD) (j : Fin 7) : Dev nD := ⟨devAt d (BitVec.ofNat 32 (1 + j.val)), devAt_lt d j⟩

/-- Send the own row of maxima to peer `j`. -/
def sendA (d : Dev nD) (j : Fin 7) (k : P F) : P F :=
  .op (.enqueueDma (row B (k0_off6 d) (k0_off6_inb d)) (.remote (Dev.tc (peer d j)) (row B (k0_off6 d) (k0_off6_inb d)) (.dma (semAt7 B.sa j)))
    (.dma (semAt7 B.ra j)) ((View.wordExact_bits rfl).reshape _ _) ((View.wordExact_bits rfl).reshape _ _) ⟨⟨rfl, Or.inl rfl⟩, trivial⟩) fun _ => k
/-- Wait for the row that arrives on semaphore `j`. -/
def recvA (d : Dev nD) (j : Fin 7) (k : P F) : P F :=
  .op (.waitDma2 (semAt7 B.ra j) (row B (k0_off7 d (BitVec.ofNat 32 (1 + j.val))) (k0_off7_inb d j)) (row B (k0_off7 d (BitVec.ofNat 32 (1 + j.val))) (k0_off7_inb d j))
    ((View.wordExact_bits rfl).reshape _ _) ((View.wordExact_bits rfl).reshape _ _)) fun _ => k
/-- Wait for departure `j` of the own row. -/
def doneA (d : Dev nD) (j : Fin 7) (k : P F) : P F :=
  .op (.waitDma2 (semAt7 B.sa j) (row B (k0_off6 d) (k0_off6_inb d)) (row B (k0_off6 d) (k0_off6_inb d))
    ((View.wordExact_bits rfl).reshape _ _) ((View.wordExact_bits rfl).reshape _ _)) fun _ => k

/-- `f 0`, `f 1`, …, in turn. -/
def each {n : ℕ} (f : Fin n → P F → P F) (k : P F) : (i : ℕ) → (h : i ≤ n) → P F
  | 0, _ => k
  | i + 1, h => f ⟨n - (i + 1), by omega⟩ (each f k i (by omega))

/-- The exchange of the maxima. -/
def exchange (d : Dev nD) (am : F .f32) (k : Vec F S8x8x128 .f32 → P F) : P F :=
  .op (.load B.am (Rect.unit (s := S8x8x128) (k0_off5 d) S1x8x128.size (k0_off5_inb d)).toLoadRect (View.loadsAt_vmem h_S1x8x128)) fun _ =>
  .op (.store B.am (Rect.unit (s := S8x8x128) (k0_off5 d) S1x8x128.size (k0_off5_inb d)) (shapeCast S1x8x128 (broadcast S1x8x128 am) shapeCasts_S1x8x128_S1x8x128)
    Finset.univ (View.stores_vmem_bits_univ h_S1x8x128 rfl) (.inl rfl)) fun _ =>
  each (sendA B d) (each (recvA B d) (each (doneA B d)
    (.op (.load B.am (Rect.unit (s := S8x8x128) ![0, 0, 0] S8x8x128.size inb_S8x8x128_S8x8x128_0_0_0).toLoadRect (View.loadsAt_vmem h_S8x8x128)) k)
    7 (by decide)) 7 (by decide)) 7 (by decide)

/-- Quantise block `g` of the result in place. -/
def quantS (v : Vec F S8x8x128 .f32) (g : Fin 8) (k : P F) : P F :=
  loadO B (g.val * 1024) (by omega) fun u => loadO B (g.val * 1024) (by omega) fun _ => storeO B (g.val * 1024) (by omega) (k0_pay184 (k0_pay182 v) u) k

/-- The whole body. -/
def body : P F :=
  .op .deviceId fun d =>
  begins B d <| midSteps B d 0 (by decide) 0 (turnStep B d (Scalar.ofBits .f32 0x00000000#32) fun am =>
    midSteps B d 4096 (by decide) 7 (lastStep B d am fun am => exchange B d am fun v => each (quantS B v) (.ret ⟨⟩) 8 (by decide)) 6 0 (by decide)) 6 0 (by decide)

end Cert.KernelIdeal.Ring
-- ==== Proof.Mem.lean ====
/- Ownership of the kernel's buffers: what loading and storing does to a memref, a slot of a two-slot buffer, a block of
   columns and a row of the table of maxima, each owned at given contents. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Rounds
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The logic -/

/-- The ring's ghost state: rounds of cells, with duties named by `Bool`. -/
abbrev UB : Type := URounds (GSem nD τ sig) Bool
/-- It stands beside the launch's own. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- Device `c` runs `p` and ends in `Q`. -/
abbrev WP (c : Dev nD) (p : P F) (Q : PUnit.{1} → sProp 𝕄) : sProp 𝕄 :=
  wp frame (wpE (defs₀ (F := F)) 𝒱₀ (c : Thread nD τ) none) Set.univ p Q

/-- What a run ends in. -/
abbrev PQ (F : FTy → Type) [FloatOps F] : Type _ := PUnit.{1} → sProp (MT nD τ sig ℕ (Elt F) ℕ UU ℕ)

variable (c : Dev nD) {Q : PQ F}

/-! ## A memref owned at given contents -/

section Own

variable {cs : CoreSpace} {s : Shape} {e : EltTy} (m : Memref sig Kind.tc cs s e)

/-- Loading a rectangle of an owned memref yields its part of the contents. -/
theorem load_own {q : PosShare TreeShare} {X : s.Idx → Elt F e} {r : Rect s} {hl : m.view.LoadsAt r.toLoadRect}
    {k : (r.shape.Idx → Elt F e) → P F} :
    owns (c : Thread nD τ) m q X ⊢ iprop((owns (c : Thread nD τ) m q X -∗ WP c (k fun j => X (r.emb j)) Q)
      -∗ WP c (.op (.load m r.toLoadRect hl) k) Q) := by
  unfold owns
  iintro ⟨%f, %hf, H⟩ Hk
  iapply (wp_load 𝒱₀ (c : Thread nD τ) none Set.univ (m := m) (View.setOn_subset_set _ _)) $$ H
  iintro H
  rw [show m.view.readAt (Elt F) r.toLoadRect f = fun j => X (r.emb j) from by subst hf; rfl]
  iapply Hk
  iexists f
  isplitr
  · ipureintro; exact hf
  · iexact H

/-- Storing to a rectangle of an owned memref leaves it at contents that are the stored value there and the old ones
    elsewhere. -/
theorem store_own {X X' : s.Idx → Elt F e} {r : Rect s} {w : r.shape.Idx → Elt F e} {hx hm} {k : PUnit → P F}
    (h₁ : ∀ j, X' (r.emb j) = w j) (h₂ : ∀ i, i ∉ r.set → X' i = X i) :
    owns (c : Thread nD τ) m fullShare X ⊢ iprop((owns (c : Thread nD τ) m fullShare X' -∗ WP c (k ⟨⟩) Q)
      -∗ WP c (.op (.store m r w Finset.univ hx hm) k) Q) := by
  unfold owns
  iintro ⟨%f, %hf, H⟩ Hk
  iapply (wp_store 𝒱₀ (c : Thread nD τ) none Set.univ (m := m) (r := r) (Mk := Finset.univ) (View.set_slice_subset _ _)) $$ H
  iintro H
  iapply Hk
  iexists ((m.access r).write (Elt F) f w Finset.univ)
  isplitr
  · ipureintro
    funext i
    by_cases hi : i ∈ r.set
    · rw [← Rect.map_emb_univ, Finset.mem_map] at hi
      obtain ⟨j, -, rfl⟩ := hi
      rw [h₁]
      exact View.read_slice_write_emb r f w (Finset.mem_univ j)
    · rw [h₂ i hi, ← hf]
      exact View.read_slice_write_of_not_mem r f w Finset.univ (by rw [Rect.map_emb_univ]; exact hi)
  · iexact H

/-- Owning a slice with a unit axis dropped is owning the slice. -/
theorem owns_squeeze {s' : Shape} (h : s.Squeezes s') (q : PosShare TreeShare) (X : s.Idx → Elt F e) :
    (owns (c : Thread nD τ) (m.squeeze s' h) q (fun j => X (Shape.reshapeEquiv h.numel_eq j)) : sProp 𝕄)
      = owns (c : Thread nD τ) m q X := by
  unfold owns
  have hr (f : m.view.ty.Contents (Elt F)) : (m.squeeze s' h).view.read (Elt F) f = (fun j => X (Shape.reshapeEquiv h.numel_eq j))
      ↔ m.view.read (Elt F) f = X :=
    ⟨fun e => funext fun i => by
        have := congrFun e ((Shape.reshapeEquiv h.numel_eq).symm i)
        simpa [View.read, View.reshape] using this,
      fun e => by subst e; rfl⟩
  have hs : (m.squeeze s' h).view.set = m.view.set := View.set_reshape _ _
  have h₁ : (iprop(∃ f, ⌜(m.squeeze s' h).view.read (Elt F) f = fun j => X (Shape.reshapeEquiv h.numel_eq j)⌝
        ∗ ((m.squeeze s' h).view.loc (c : Thread nD τ) ↦[(m.squeeze s' h).view.set]{q} f)) : sProp 𝕄)
      ⊢ (iprop(∃ f, ⌜m.view.read (Elt F) f = X⌝ ∗ (m.view.loc (c : Thread nD τ) ↦[m.view.set]{q} f)) : sProp 𝕄) := by
    iintro ⟨%f, %hf, H⟩
    iexists f
    isplitr
    · ipureintro; exact (hr f).mp hf
    · rw [← hs]; iexact H
  have h₂ : (iprop(∃ f, ⌜m.view.read (Elt F) f = X⌝ ∗ (m.view.loc (c : Thread nD τ) ↦[m.view.set]{q} f)) : sProp 𝕄)
      ⊢ (iprop(∃ f, ⌜(m.squeeze s' h).view.read (Elt F) f = fun j => X (Shape.reshapeEquiv h.numel_eq j)⌝
        ∗ ((m.squeeze s' h).view.loc (c : Thread nD τ) ↦[(m.squeeze s' h).view.set]{q} f)) : sProp 𝕄) := by
    iintro ⟨%f, %hf, H⟩
    iexists f
    isplitr
    · ipureintro; exact (hr f).mpr hf
    · rw [hs]; iexact H
  exact BI.equiv_iff.mp ⟨h₁, h₂⟩

end Own

/-! ## A slot of a two-slot buffer -/

/-- Taking a slice off a memref, then a unit axis off the slice: load, in terms of the squeezed slice. -/
theorem load_slot {cs : CoreSpace} {s s' : Shape} {e : EltTy} (m : Memref sig Kind.tc cs s e) {r : Rect s} (hr : ∀ a, r.stride a = 1)
    (h : r.shape.Squeezes s') {q : PosShare TreeShare} {X : s'.Idx → Elt F e} {hl : m.view.LoadsAt r.toLoadRect}
    {k : (r.shape.Idx → Elt F e) → P F} (h' : s'.ShapeCasts r.shape) :
    owns (c : Thread nD τ) ((m.slice r hr).squeeze s' h) q X ⊢
      iprop((owns (c : Thread nD τ) ((m.slice r hr).squeeze s' h) q X -∗ WP c (k (shapeCast r.shape X h')) Q)
      -∗ WP c (.op (.load m r.toLoadRect hl) k) Q) := by
  have hX : X = fun j => shapeCast r.shape X h' (Shape.reshapeEquiv h.numel_eq j) := funext fun j => congrArg X (by
    show j = Shape.reshapeEquiv _ (Shape.reshapeEquiv _ j)
    rw [Shape.reshapeEquiv_reshapeEquiv, Shape.reshapeEquiv_self])
  rw [show (owns (c : Thread nD τ) ((m.slice r hr).squeeze s' h) q X : sProp 𝕄) = owns (c : Thread nD τ) (m.slice r hr) q (shapeCast r.shape X h') from
    (congrArg _ hX).trans (owns_squeeze c (m.slice r hr) h q (shapeCast r.shape X h'))]
  generalize shapeCast r.shape X h' = Y
  unfold owns
  iintro ⟨%f, %hf, H⟩ Hk
  iapply (wp_load_rect 𝒱₀ (c : Thread nD τ) none Set.univ (m := m) (r := r) (Finset.Subset.refl _)) $$ H
  iintro H
  rw [show (m.access r).read (Elt F) f = Y from hf]
  iapply Hk
  iexists f
  isplitr
  · ipureintro; exact hf
  · iexact H

/-- and store. -/
theorem store_slot {cs : CoreSpace} {s s' : Shape} {e : EltTy} (m : Memref sig Kind.tc cs s e) {r : Rect s} (hr : ∀ a, r.stride a = 1)
    (h : r.shape.Squeezes s') {X : s'.Idx → Elt F e} {w : r.shape.Idx → Elt F e} {hx hm}
    {k : PUnit → P F} (h' : r.shape.ShapeCasts s') :
    owns (c : Thread nD τ) ((m.slice r hr).squeeze s' h) fullShare X ⊢
      iprop((owns (c : Thread nD τ) ((m.slice r hr).squeeze s' h) fullShare (shapeCast s' w h') -∗ WP c (k ⟨⟩) Q)
      -∗ WP c (.op (.store m r w Finset.univ hx hm) k) Q) := by
  rw [show (owns (c : Thread nD τ) ((m.slice r hr).squeeze s' h) fullShare (shapeCast s' w h') : sProp 𝕄) = owns (c : Thread nD τ) (m.slice r hr) fullShare w from
    owns_squeeze c (m.slice r hr) h fullShare w]
  unfold owns
  iintro ⟨%f, %hf, H⟩ Hk
  iapply (wp_store 𝒱₀ (c : Thread nD τ) none Set.univ (m := m) (r := r) (Mk := Finset.univ) (S := ((m.slice r hr).squeeze s' h).view.set) (by
    rw [show ((m.slice r hr).squeeze s' h).view.set = (m.view.slice r).set from View.set_reshape _ _]; exact Finset.Subset.refl _)) $$ H
  iintro H
  iapply Hk
  iexists ((m.access r).write (Elt F) f w Finset.univ)
  isplitr
  · ipureintro; exact View.read_write_univ _ _
  · rw [show ((m.slice r hr).squeeze s' h).view.set = (m.view.slice r).set from View.set_reshape _ _]; iexact H

/-- The contents of a slot as a load reads them, brought back to the block's shape. -/
abbrev sq (v : Vec F S1x512x1024 .bf16) : FVec F S512x1024 .bf16 := shapeCast S512x1024 v shapeCasts_S1x512x1024_S512x1024
abbrev unsq (v : FVec F S512x1024 .bf16) : Vec F S1x512x1024 .bf16 := shapeCast S1x512x1024 v shapeCasts_S512x1024_S1x512x1024

theorem loadS_own (L : Lane) (p : Fin 2) {q : PosShare TreeShare} {X : FVec F S512x1024 .bf16} {k : Vec F S1x512x1024 .bf16 → P F} :
    owns (c : Thread nD τ) (L.slot p) q X ⊢ iprop((owns (c : Thread nD τ) (L.slot p) q X -∗ WP c (k (unsq X)) Q) -∗ WP c (loadS L p k) Q) :=
  load_slot c L.cm (r := slotRect p) (fun _ => rfl) squeezes_S1x512x1024_S512x1024 (X := X) (k := k) _

theorem storeS_own (L : Lane) (p : Fin 2) {X : FVec F S512x1024 .bf16} {v : Vec F S1x512x1024 .bf16} {k : P F} :
    owns (c : Thread nD τ) (L.slot p) fullShare X ⊢ iprop((owns (c : Thread nD τ) (L.slot p) fullShare (sq v) -∗ WP c k Q) -∗ WP c (storeS L p v k) Q) :=
  store_slot c L.cm (r := slotRect p) (fun _ => rfl) squeezes_S1x512x1024_S512x1024 (X := X) (w := v) (k := fun _ => k) _

/-- A lane's two slots are disjoint and make up its buffer. -/
theorem slots_disjoint (p p' : Fin 2) (h : p ≠ p') : Disjoint (slotRect p).set (slotRect p').set :=
  Rect.unit_disjoint (s := S2x512x1024) (0 : Fin 3) (by
    have : p.val ≠ p'.val := fun e => h (Fin.ext e)
    show p.val + 1 ≤ p'.val ∨ p'.val + 1 ≤ p.val
    omega)
theorem slots_cover : (Finset.univ : Finset (Fin 2)).biUnion (fun p => (slotRect p).set) = Finset.univ := by
  refine Finset.eq_univ_of_forall fun i => Finset.mem_biUnion.mpr ⟨i (0 : Fin 3), Finset.mem_univ _, Rect.mem_set_unit.mpr fun a => ?_⟩
  match a with
  | 0 => exact ⟨Nat.le_refl _, Nat.lt_succ_self _⟩
  | 1 => exact ⟨Nat.zero_le _, (Nat.zero_add 512).symm ▸ (i (1 : Fin 3)).isLt⟩
  | 2 => exact ⟨Nat.zero_le _, (Nat.zero_add 1024).symm ▸ (i (2 : Fin 3)).isLt⟩

/-- A slot owned at some contents. -/
def anyslot (L : Lane) (p : Fin 2) : sProp 𝕄 := iprop(∃ X : FVec F S512x1024 .bf16, owns (c : Thread nD τ) (L.slot p) fullShare X)

instance anyslot_storable (L : Lane) (p : Fin 2) : BI.Storable (upEmb : UEmb _ 𝕄) (anyslot c L p : sProp 𝕄) := by
  unfold anyslot; infer_instance

/-- A buffer owned at some contents splits into its two slots, -/
theorem slots_split (L : Lane) (X : Vec F S2x512x1024 .bf16) :
    (owns (c : Thread nD τ) L.cm fullShare X : sProp 𝕄) ⊢ iprop(anyslot c L 0 ∗ anyslot c L 1) := by
  refine (owns_rects (c : Thread nD τ) L.cm fullShare slotRect (fun _ _ => rfl) slots_disjoint slots_cover X).trans ?_
  rw [bigSep_fin_two]
  unfold anyslot
  refine (show (iprop(owns (c : Thread nD τ) (L.cm.slice (slotRect 0) (fun _ => rfl)) fullShare (fun j => X ((slotRect 0).emb j))
    ∗ owns (c : Thread nD τ) (L.cm.slice (slotRect 1) (fun _ => rfl)) fullShare (fun j => X ((slotRect 1).emb j))) : sProp 𝕄) ⊢ _ from ?_)
  iintro ⟨H0, H1⟩
  isplitl [H0]
  · iexists _
    rw [show (owns (c : Thread nD τ) (L.slot 0) fullShare _ : sProp 𝕄) = _ from owns_squeeze c (L.cm.slice (slotRect 0) (fun _ => rfl)) squeezes_S1x512x1024_S512x1024 fullShare (fun j => X ((slotRect 0).emb j))]
    iexact H0
  · iexists _
    rw [show (owns (c : Thread nD τ) (L.slot 1) fullShare _ : sProp 𝕄) = _ from owns_squeeze c (L.cm.slice (slotRect 1) (fun _ => rfl)) squeezes_S1x512x1024_S512x1024 fullShare (fun j => X ((slotRect 1).emb j))]
    iexact H1

/-! ## Blocks of columns -/

/-- A matrix put together from its eight blocks of columns. -/
def glue {α : Type} (f : Fin 8 → S512x1024.Idx → α) : S512x8192.Idx → α := fun i =>
  f ⟨(i (1 : Fin 2)).val / 1024, by have : (i (1 : Fin 2)).val < 8192 := (i (1 : Fin 2)).isLt; omega⟩
    fun a => match a with
      | 0 => ⟨(i (0 : Fin 2)).val, (i (0 : Fin 2)).isLt⟩
      | 1 => ⟨(i (1 : Fin 2)).val % 1024, Nat.mod_lt _ (by decide)⟩

theorem glue_emb {α : Type} (f : Fin 8 → S512x1024.Idx → α) (g : Fin 8) (b : ℕ) (h : b + 1024 ≤ 8192) (hb : b = g.val * 1024) (j : S512x1024.Idx) :
    glue f ((colRect b h).emb j) = f g j := by
  subst hb
  have hj : (j (1 : Fin 2)).val < 1024 := (j (1 : Fin 2)).isLt
  have e1 : (((colRect (g.val * 1024) h).emb j) (1 : Fin 2)).val = g.val * 1024 + 1 * (j (1 : Fin 2)).val := rfl
  have e0 : (((colRect (g.val * 1024) h).emb j) (0 : Fin 2)).val = 0 + 1 * (j (0 : Fin 2)).val := rfl
  unfold glue
  congr 1
  · exact Fin.ext (by show (((colRect (g.val * 1024) h).emb j) (1 : Fin 2)).val / 1024 = g.val; rw [e1]; omega)
  · funext a
    match a with
    | 0 => exact Fin.ext (by show (((colRect (g.val * 1024) h).emb j) (0 : Fin 2)).val = (j (0 : Fin 2)).val; rw [e0]; omega)
    | 1 => exact Fin.ext (by show (((colRect (g.val * 1024) h).emb j) (1 : Fin 2)).val % 1024 = (j (1 : Fin 2)).val; rw [e1]; omega)

theorem glue_update {α : Type} (f : Fin 8 → S512x1024.Idx → α) (g : Fin 8) (b : ℕ) (h : b + 1024 ≤ 8192) (hb : b = g.val * 1024) (v : S512x1024.Idx → α)
    (i : S512x8192.Idx) (hi : i ∉ (colRect b h).set) : glue (Function.update f g v) i = glue f i := by
  subst hb
  unfold glue
  rw [Function.update_of_ne]
  intro e
  refine hi (Rect.mem_set_unit.mpr fun a => ?_)
  have hg : (i (1 : Fin 2)).val / 1024 = g.val := congrArg Fin.val e
  match a with
  | 0 => exact ⟨Nat.zero_le _, (Nat.zero_add 512).symm ▸ (i (0 : Fin 2)).isLt⟩
  | 1 => exact ⟨by show g.val * 1024 ≤ (i (1 : Fin 2)).val; omega, by show (i (1 : Fin 2)).val < g.val * 1024 + 1024; omega⟩

/-- Every matrix is put together from its blocks. -/
theorem exists_glue {α : Type} (X : S512x8192.Idx → α) : ∃ f, X = glue f := by
  refine ⟨fun g j => X ((colRect (g.val * 1024) (by omega)).emb j), funext fun i => ?_⟩
  unfold glue
  congr 1
  funext a
  match a with
  | 0 => exact Fin.ext (by show (i (0 : Fin 2)).val = 0 + 1 * (i (0 : Fin 2)).val; omega)
  | 1 => exact Fin.ext (by show (i (1 : Fin 2)).val = (i (1 : Fin 2)).val / 1024 * 1024 + 1 * ((i (1 : Fin 2)).val % 1024); omega)

variable (B : Bufs)

theorem loadO_own (b : ℕ) (h : b + 1024 ≤ 8192) (g : Fin 8) (hb : b = g.val * 1024) {f : Fin 8 → FVec F S512x1024 .f32} {k : Vec F S512x1024 .f32 → P F} :
    owns (c : Thread nD τ) B.o fullShare (glue f) ⊢ iprop((owns (c : Thread nD τ) B.o fullShare (glue f) -∗ WP c (k (f g)) Q) -∗ WP c (loadO B b h k) Q) := by
  have := load_own (F := F) (Q := Q) c B.o (q := fullShare) (X := glue f) (r := colRect b h) (hl := View.loadsAt_vmem h_S512x1024) (k := k)
  rwa [show (fun j => glue f ((colRect b h).emb j)) = f g from funext fun j => glue_emb f g b h hb j] at this

theorem storeO_own (b : ℕ) (h : b + 1024 ≤ 8192) (g : Fin 8) (hb : b = g.val * 1024) {f : Fin 8 → FVec F S512x1024 .f32} {v : Vec F S512x1024 .f32} {k : P F} :
    owns (c : Thread nD τ) B.o fullShare (glue f) ⊢ iprop((owns (c : Thread nD τ) B.o fullShare (glue (Function.update f g v)) -∗ WP c k Q) -∗ WP c (storeO B b h v k) Q) :=
  store_own c B.o (r := colRect b h) (k := fun _ => k) (fun j => (glue_emb _ g b h hb j).trans (congrFun (Function.update_self ..) j)) (fun i hi => glue_update f g b h hb v i hi)

/-- The columns at `b` of the right operand. -/
abbrev cols (W : Vec F S512x8192 .f32) (b : ℕ) (h : b + 1024 ≤ 8192) : Vec F S512x1024 .f32 := fun j => W ((colRect b h).emb j)
/-- The rows at `512 i` of the left operand. -/
abbrev chunkAt (X : Vec F S4096x512 .f32) (off : Fin 2 → ℕ) (h : ∀ a, off a + S512x512.size a ≤ S4096x512.size a) : Vec F S512x512 .f32 :=
  fun j => X ((Rect.unit (s := S4096x512) off S512x512.size h).emb j)

theorem loadW_own (b : ℕ) (h : b + 1024 ≤ 8192) {q : PosShare TreeShare} {W : Vec F S512x8192 .f32} {k : Vec F S512x1024 .f32 → P F} :
    owns (c : Thread nD τ) B.w q W ⊢ iprop((owns (c : Thread nD τ) B.w q W -∗ WP c (k (cols W b h)) Q) -∗ WP c (loadW B b h k) Q) :=
  load_own c B.w (r := colRect b h) (k := k)

theorem loadX_own (off : Fin 2 → ℕ) (h : ∀ a, off a + S512x512.size a ≤ S4096x512.size a) {q : PosShare TreeShare} {X : Vec F S4096x512 .f32} {k : Vec F S512x512 .f32 → P F} :
    owns (c : Thread nD τ) B.x q X ⊢ iprop((owns (c : Thread nD τ) B.x q X -∗ WP c (k (chunkAt X off h)) Q) -∗ WP c (loadX B off h k) Q) :=
  load_own c B.x (r := Rect.unit (s := S4096x512) off S512x512.size h) (k := k)

/-! ## The scratch block -/

theorem tmp_emb (j : S512x1024.Idx) : tmpRect.emb j = j := by
  funext a
  match a with
  | 0 => exact Fin.ext (by show 0 + 1 * (j (0 : Fin 2)).val = (j (0 : Fin 2)).val; omega)
  | 1 => exact Fin.ext (by show 0 + 1 * (j (1 : Fin 2)).val = (j (1 : Fin 2)).val; omega)

theorem loadT_own (L : Lane) {X : Vec F S512x1024 .f32} {k : Vec F S512x1024 .f32 → P F} :
    owns (c : Thread nD τ) L.tm fullShare X ⊢ iprop((owns (c : Thread nD τ) L.tm fullShare X -∗ WP c (k X) Q) -∗ WP c (loadT L k) Q) := by
  have := load_own (F := F) (Q := Q) c L.tm (q := fullShare) (X := X) (r := tmpRect) (hl := View.loadsAt_vmem h_S512x1024) (k := k)
  rwa [show (fun j => X (tmpRect.emb j)) = X from funext fun j => congrArg X (tmp_emb j)] at this

theorem storeT_own (L : Lane) {X : Vec F S512x1024 .f32} {v : Vec F S512x1024 .f32} {k : P F} :
    owns (c : Thread nD τ) L.tm fullShare X ⊢ iprop((owns (c : Thread nD τ) L.tm fullShare v -∗ WP c k Q) -∗ WP c (storeT L v k) Q) :=
  store_own c L.tm (r := tmpRect) (k := fun _ => k) (fun j => congrArg v (tmp_emb j)) (fun i hi => absurd (by
    rw [← Rect.map_emb_univ]; exact Finset.mem_map.mpr ⟨i, Finset.mem_univ _, tmp_emb i⟩) hi)

/-- The scratch block owned at some contents. -/
def anytmp (L : Lane) : sProp 𝕄 := iprop(∃ X : Vec F S512x1024 .f32, owns (c : Thread nD τ) L.tm fullShare X)

/-! ## Rows of the table of maxima -/

theorem row_inb : ∀ r : Fin 8, ∀ a, (![r.val, 0, 0] : Fin 3 → Nat) a + S1x8x128.size a ≤ S8x8x128.size a := by decide
abbrev rowRect (r : Fin 8) : Rect S8x8x128 := Rect.unit (s := S8x8x128) ![r.val, 0, 0] S1x8x128.size (row_inb r)
/-- Row `r` of the table. -/
abbrev rowM (r : Fin 8) : Memref sig .tc .vmem S8x128 .f32 := row B ![r.val, 0, 0] (row_inb r)

theorem row_congr {off off' : Fin 3 → ℕ} (e : off = off') (h h') : row B off h = row B off' h' := by subst e; rfl

theorem rows_disjoint (r r' : Fin 8) (h : r ≠ r') : Disjoint (rowRect r).set (rowRect r').set :=
  Rect.unit_disjoint (s := S8x8x128) (0 : Fin 3) (by
    have : r.val ≠ r'.val := fun e => h (Fin.ext e)
    show r.val + 1 ≤ r'.val ∨ r'.val + 1 ≤ r.val
    omega)
theorem rows_cover : (Finset.univ : Finset (Fin 8)).biUnion (fun r => (rowRect r).set) = Finset.univ := by
  refine Finset.eq_univ_of_forall fun i => Finset.mem_biUnion.mpr ⟨i (0 : Fin 3), Finset.mem_univ _, Rect.mem_set_unit.mpr fun a => ?_⟩
  match a with
  | 0 => exact ⟨Nat.le_refl _, Nat.lt_succ_self _⟩
  | 1 => exact ⟨Nat.zero_le _, (Nat.zero_add 8).symm ▸ (i (1 : Fin 3)).isLt⟩
  | 2 => exact ⟨Nat.zero_le _, (Nat.zero_add 128).symm ▸ (i (2 : Fin 3)).isLt⟩

/-- A row owned at some contents. -/
def anyrow (r : Fin 8) : sProp 𝕄 := iprop(∃ X : Vec F S8x128 .f32, owns (c : Thread nD τ) (rowM B r) fullShare X)

instance anyrow_storable (r : Fin 8) : BI.Storable (upEmb : UEmb _ 𝕄) (anyrow c B r : sProp 𝕄) := by
  unfold anyrow; infer_instance

/-- A row of one value. -/
abbrev constRow (a : F .f32) : Vec F S8x128 .f32 := fun _ => a
/-- The table whose row `r` is `t r` throughout. -/
def table (t : Fin 8 → F .f32) : Vec F S8x8x128 .f32 := fun i => t (i (0 : Fin 3))

/-- The table owned at some contents splits into its rows, -/
theorem rows_split (X : Vec F S8x8x128 .f32) :
    (owns (c : Thread nD τ) B.am fullShare X : sProp 𝕄) ⊢ bigSep Finset.univ fun r : Fin 8 => anyrow c B r := by
  refine (owns_rects (c : Thread nD τ) B.am fullShare rowRect (fun _ _ => rfl) rows_disjoint rows_cover X).trans (bigSep_mono fun r _ => ?_)
  unfold anyrow
  refine (show (owns (c : Thread nD τ) (B.am.slice (rowRect r) (fun _ => rfl)) fullShare (fun j => X ((rowRect r).emb j)) : sProp 𝕄) ⊢ _ from ?_)
  iintro H
  iexists _
  rw [show (owns (c : Thread nD τ) (rowM B r) fullShare _ : sProp 𝕄) = _ from owns_squeeze c (B.am.slice (rowRect r) (fun _ => rfl)) squeezes_S1x8x128_S8x128 fullShare (fun j => X ((rowRect r).emb j))]
  iexact H

/-- and rows of one value each are the table. -/
theorem rows_join (t : Fin 8 → F .f32) :
    (bigSep Finset.univ fun r : Fin 8 => owns (c : Thread nD τ) (rowM B r) fullShare (constRow (t r)) : sProp 𝕄)
      ⊢ owns (c : Thread nD τ) B.am fullShare (table t) := by
  refine BIBase.Entails.trans (bigSep_mono fun r _ => ?_) (owns_of_rects (c : Thread nD τ) B.am fullShare rowRect (fun _ _ => rfl) rows_disjoint rows_cover (table t))
  rw [show (fun j => table t ((rowRect r).emb j)) = fun _ => t r from funext fun j => congrArg t (Fin.ext (by
    show r.val + 1 * (j (0 : Fin 3)).val = r.val
    have : (j (0 : Fin 3)).val < 1 := (j (0 : Fin 3)).isLt
    omega))]
  exact Entails.of_eq (owns_squeeze c (B.am.slice (rowRect r) (fun _ => rfl)) squeezes_S1x8x128_S8x128 fullShare (fun _ => t r))

end Cert.KernelIdeal.Ring
-- ==== Proof.Sched.lean ====
/- What the devices exchange: the cells they signal and wait on, the rounds each cell goes through and what each round hands
   over, the contents that travel, what each device owes and in which order it pays. -/
module

public import proofs.«01_k».proof.Proof.Mem

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers and the lanes -/

/-- The kernel's buffers. -/
def BB : Bufs :=
  ⟨Memref.whole cc0_stg0_0, Memref.whole cc0_stg1_0, Memref.whole cc0_stg2_0, Memref.whole cc0_scratch8, cc0_scratch17, cc0_scratch18,
    four ⟨Memref.whole cc0_scratch0, Memref.isWhole_whole _, Memref.whole cc0_scratch4, cc0_scratch9, cc0_scratch10, cc0_scratch19.sem, 0, by decide, true⟩
      ⟨Memref.whole cc0_scratch1, Memref.isWhole_whole _, Memref.whole cc0_scratch5, cc0_scratch11, cc0_scratch12, cc0_scratch20.sem, 2048, by decide, false⟩
      ⟨Memref.whole cc0_scratch2, Memref.isWhole_whole _, Memref.whole cc0_scratch6, cc0_scratch13, cc0_scratch14, cc0_scratch21.sem, 1024, by decide, true⟩
      ⟨Memref.whole cc0_scratch3, Memref.isWhole_whole _, Memref.whole cc0_scratch7, cc0_scratch15, cc0_scratch16, cc0_scratch22.sem, 3072, by decide, false⟩⟩

/-- Lane `ℓ`. -/
abbrev LL (ℓ : Fin 4) : Lane := BB.lane ℓ

/-! ## The ring -/

/-- The device `k` places to the right. -/
def rot (c : Dev nD) (k : ℕ) : Dev nD := ⟨(c.val + k) % 8, Nat.mod_lt _ (by decide)⟩
/-- The device `k` places to the left, for `k` up to eight. -/
def unrot (c : Dev nD) (k : ℕ) : Dev nD := ⟨(c.val + (8 - k)) % 8, Nat.mod_lt _ (by decide)⟩

theorem devL_eq (c : Dev nD) : devL c = unrot c 1 := by revert c; decide +kernel
theorem devR_eq (c : Dev nD) : devR c = rot c 1 := by revert c; decide +kernel
theorem devL_devR (c : Dev nD) : devL (devR c) = c := by revert c; decide +kernel
theorem devR_devL (c : Dev nD) : devR (devL c) = c := by revert c; decide +kernel
theorem peer_eq (c : Dev nD) (j : Fin 7) : peer c j = rot c (j.val + 1) := by revert c j; decide +kernel
theorem rot_unrot (c : Dev nD) (j : Fin 7) : rot (unrot c (j.val + 1)) (j.val + 1) = c := by revert c j; decide +kernel
theorem unrot_rot (c : Dev nD) (j : Fin 7) : unrot (rot c (j.val + 1)) (j.val + 1) = c := by revert c j; decide +kernel
theorem rot_devL (c : Dev nD) (k : ℕ) : rot (devL c) (k + 1) = rot c k := by
  rw [devL_eq]
  exact Fin.ext (by show ((c.val + (8 - 1)) % 8 + (k + 1)) % 8 = (c.val + k) % 8; omega)
theorem rot_zero (c : Dev nD) : rot c 0 = c := Fin.ext (by show (c.val + 0) % 8 = c.val; have : c.val < 8 := c.isLt; omega)

theorem dst_src (ℓ : Fin 4) (c : Dev nD) : (LL ℓ).dst ((LL ℓ).src c) = c := by
  cases h : (LL ℓ).cw
  · show (bif (LL ℓ).cw then _ else _) = c; rw [h]; show devL (bif (LL ℓ).cw then _ else _) = c; rw [h]; exact devL_devR c
  · show (bif (LL ℓ).cw then _ else _) = c; rw [h]; show devR (bif (LL ℓ).cw then _ else _) = c; rw [h]; exact devR_devL c
theorem src_dst (ℓ : Fin 4) (c : Dev nD) : (LL ℓ).src ((LL ℓ).dst c) = c := by
  cases h : (LL ℓ).cw
  · show (bif (LL ℓ).cw then _ else _) = c; rw [h]; show devR (bif (LL ℓ).cw then _ else _) = c; rw [h]; exact devR_devL c
  · show (bif (LL ℓ).cw then _ else _) = c; rw [h]; show devL (bif (LL ℓ).cw then _ else _) = c; rw [h]; exact devL_devR c

/-! ## The cells -/

/-- A device's cells: the barrier's; for each lane and slot the departures' and the arrivals'; each lane's credits'; for each
    peer the departure's and the arrival's of a row of maxima. -/
abbrev CK : Type := Unit ⊕ (Fin 4 × Fin 2) ⊕ (Fin 4 × Fin 2) ⊕ Fin 4 ⊕ Fin 7 ⊕ Fin 7
@[match_pattern] abbrev kBar : CK := .inl ()
@[match_pattern] abbrev kSs (ℓ : Fin 4) (p : Fin 2) : CK := .inr (.inl (ℓ, p))
@[match_pattern] abbrev kRs (ℓ : Fin 4) (p : Fin 2) : CK := .inr (.inr (.inl (ℓ, p)))
@[match_pattern] abbrev kCr (ℓ : Fin 4) : CK := .inr (.inr (.inr (.inl ℓ)))
@[match_pattern] abbrev kSa (j : Fin 7) : CK := .inr (.inr (.inr (.inr (.inl j))))
@[match_pattern] abbrev kRa (j : Fin 7) : CK := .inr (.inr (.inr (.inr (.inr j))))

set_option synthInstance.maxSize 2000 in
instance CK_decidableEq : DecidableEq CK := inferInstance

/-- The semaphore of a cell. -/
def csem : CK → SemLoc sig
  | kBar => .reg barS
  | kSs ℓ p => .dma (semAt (LL ℓ).ss p)
  | kRs ℓ p => .dma (semAt (LL ℓ).rs p)
  | kCr ℓ => .reg (LL ℓ).cr
  | kSa j => .dma (semAt7 BB.sa j)
  | kRa j => .dma (semAt7 BB.ra j)

set_option synthInstance.maxSize 2000 in
theorem csem_injective : Function.Injective csem := by
  have h : ∀ a b : CK, csem a = csem b → a = b := by decide +kernel
  exact fun a b => h a b

/-- Device `c`'s cell `k`. -/
abbrev cell (c : Dev nD) (k : CK) : GSem nD τ sig := ((c : Thread nD τ), csem k)

open Classical in
/-- The cell a semaphore is, if it is one. -/
def keyOf (s : SemLoc sig) : Option CK := if h : ∃ k, csem k = s then some h.choose else none
theorem keyOf_csem (k : CK) : keyOf (csem k) = some k := by
  unfold keyOf
  have h : ∃ k', csem k' = csem k := ⟨k, rfl⟩
  rw [dif_pos h]
  exact congrArg some (csem_injective h.choose_spec)

/-! ## The contents that travel -/

/-- What a slot's transfer counts. -/
def Lane.N (L : Lane) : ℕ := (L.slot 0).view.dmaCredit
theorem slot_credit (L : Lane) (p : Fin 2) : (L.slot p).view.dmaCredit = L.N := rfl
theorem slot_amount (L : Lane) (p : Fin 2) (s : DmaSem sig) : (L.slot p).view.amount (.dma s) = L.N := rfl
theorem Lane.N_pos (L : Lane) : 0 < L.N := View.dmaCredit_pos _ (by decide)
/-- What a row's transfer counts. -/
def Nr : ℕ := (rowM BB 0).view.dmaCredit
theorem row_credit (r : Fin 8) : (rowM BB r).view.dmaCredit = Nr := rfl
theorem row_amount (r : Fin 8) (s : DmaSem sig) : (rowM BB r).view.amount (.dma s) = Nr := rfl
theorem Nr_pos : 0 < Nr := View.dmaCredit_pos _ (by decide)

variable (xs : Dev nD → Vec F S4096x512 .f32) (ws : Dev nD → Vec F S512x8192 .f32)

/-- The chunk device `c` multiplies in step `s` of a pass, on lane `ℓ`, -/
def xch (ℓ : Fin 4) (s : Fin 7) (c : Dev nD) : Vec F S512x512 .f32 :=
  pick (LL ℓ) (chunkAt (xs c) (k0_off3 c (BitVec.ofNat 32 s.val)) (k0_off3_inb c s)) (chunkAt (xs c) (k0_off4 c (BitVec.ofNat 32 s.val)) (k0_off4_inb c s))
/-- and the chunk it begins a pass with. -/
def xin (ℓ : Fin 4) (c : Dev nD) : Vec F S512x512 .f32 :=
  pick (LL ℓ) (chunkAt (xs c) (k0_off1 c) (k0_off1_inb c)) (chunkAt (xs c) (k0_off2 c) (k0_off2_inb c))
/-- The columns of a lane, in the pass at `e`. -/
def wat (ℓ : Fin 4) (e : ℕ) (he : e ≤ 4096) (c : Dev nD) : Vec F S512x1024 .f32 :=
  cols (ws c) ((LL ℓ).base + e) (by have := (LL ℓ).hbase; omega)

/-- The columns' place in the pass to which transfer `t` belongs. -/
def passAt (t : ℕ) : ℕ := if t < 7 then 0 else 4096
theorem passAt_le (t : ℕ) : passAt t ≤ 4096 := by unfold passAt; split <;> omega

/-- The partial sum that device `c` sends in transfer `t` on lane `ℓ`. -/
def sent (ℓ : Fin 4) : ℕ → Dev nD → FVec F S512x1024 .bf16
  | 0, c => sq (k0_pay4 (prod (xin xs ℓ c) (wat ws ℓ 0 (by decide) c)))
  | t + 1, c =>
    if t + 1 = 7 then sq (k0_pay4 (prod (xin xs ℓ c) (wat ws ℓ 4096 (by decide) c)))
    else sq (k0_pay11 (unsq (sent ℓ t ((LL ℓ).src c))) (k0_pay10 (xch xs ℓ ⟨t % 7, Nat.mod_lt t (by decide)⟩ c) (wat ws ℓ (passAt t) (passAt_le t) c)))

/-- The block of the result that device `c` ends a pass with on lane `ℓ`: the first pass's and the second's. -/
def resLo (ℓ : Fin 4) (c : Dev nD) : FVec F S512x1024 .f32 :=
  k0_pay79 (unsq (sent xs ws ℓ 6 ((LL ℓ).src c))) (k0_pay10 (xch xs ℓ 6 c) (wat ws ℓ 0 (by decide) c))
def resHi (ℓ : Fin 4) (c : Dev nD) : FVec F S512x1024 .f32 :=
  k0_pay79 (unsq (sent xs ws ℓ 13 ((LL ℓ).src c))) (k0_pay10 (xch xs ℓ 6 c) (wat ws ℓ 4096 (by decide) c))

/-- The result's blocks before quantisation, in the order of their columns. -/
def resAll (c : Dev nD) : Fin 8 → FVec F S512x1024 .f32
  | 0 => resLo xs ws 0 c
  | 1 => resLo xs ws 2 c
  | 2 => resLo xs ws 1 c
  | 3 => resLo xs ws 3 c
  | 4 => resHi xs ws 0 c
  | 5 => resHi xs ws 2 c
  | 6 => resHi xs ws 1 c
  | 7 => resHi xs ws 3 c

/-- The largest entry of device `c`'s first-pass blocks, and of all. -/
def lmaxLo (c : Dev nD) : F .f32 :=
  resmax (resmax (resmax (resmax (Scalar.ofBits .f32 0x00000000#32) (resLo xs ws 0 c)) (resLo xs ws 1 c)) (resLo xs ws 2 c)) (resLo xs ws 3 c)
def lmax (c : Dev nD) : F .f32 :=
  resmax (resmax (resmax (resmax (lmaxLo xs ws c) (resHi xs ws 0 c)) (resHi xs ws 1 c)) (resHi xs ws 2 c)) (resHi xs ws 3 c)

/-- The result. -/
def outAll (c : Dev nD) : Fin 8 → FVec F S512x1024 .f32 :=
  fun g => k0_pay184 (k0_pay182 (table (lmax xs ws))) (resAll xs ws c g)

/-! ## Rows lent on -/

/-- What device `c` receives at stage `k` of the lending of the rows of the tables of maxima: of the table of the device `k`
    places to the right, the rows of the devices `k`, `k + 1`, … places to the left of that one. -/
def hold (c : Dev nD) (k : ℕ) : sProp 𝕄 := bigSep (Finset.Ico k 8) fun j => anyrow (rot c k) BB (unrot (rot c k) j)
/-- What it has kept by then. -/
def kept (c : Dev nD) (k : ℕ) : sProp 𝕄 := bigSep (Finset.Ico 1 (min k 8)) fun j => anyrow (rot c j) BB c
/-- Lane 0's credits carry the rows. -/
def relay (ℓ : Fin 4) (c : Dev nD) (k : ℕ) : sProp 𝕄 := if ℓ = 0 then hold c k else iprop(emp)

instance hold_storable (c : Dev nD) (k : ℕ) : BI.Storable (upEmb : UEmb _ 𝕄) (hold c k : sProp 𝕄) := by unfold hold; infer_instance
instance relay_storable (ℓ : Fin 4) (c : Dev nD) (k : ℕ) : BI.Storable (upEmb : UEmb _ 𝕄) (relay ℓ c k : sProp 𝕄) := by
  unfold relay; split <;> infer_instance

/-- The share of the own row that departure `j` reads under, and what is left after `j` departures. -/
def remq : ℕ → PosShare TreeShare
  | 0 => fullShare
  | n + 1 => (remq n).right
def shq (j : ℕ) : PosShare TreeShare := (remq j).left

/-! ## The schedule -/

/-- The duties of round `r` of a cell. -/
def dutiesK : CK → ℕ → Finset Bool
  | kBar, r => if r = 0 then Finset.univ else ∅
  | kSs _ _, r => if r < 7 then {false} else ∅
  | kRs _ _, r => if r < 7 then {false} else ∅
  | kCr _, r => if r < 13 then {false} else ∅
  | kSa _, r => if r = 0 then {false} else ∅
  | kRa _, r => if r = 0 then {false} else ∅

/-- What each contributes. -/
def amountK : CK → ℕ
  | kBar => 1
  | kSs ℓ _ => (LL ℓ).N
  | kRs ℓ _ => (LL ℓ).N
  | kCr _ => 1
  | kSa _ => Nr
  | kRa _ => Nr

theorem amountK_pos (k : CK) : 0 < amountK k := by
  match k with
  | kBar => exact Nat.one_pos
  | kSs ℓ _ => exact (LL ℓ).N_pos
  | kRs ℓ _ => exact (LL ℓ).N_pos
  | kCr _ => exact Nat.one_pos
  | kSa _ => exact Nr_pos
  | kRa _ => exact Nr_pos

/-- What a duty of round `r` of device `c`'s cell hands it. The barrier's: from the neighbour on the right (`true`) and on the
    left (`false`), the slots that its first transfers go to, and from the right the rows of the first stage. A departure: the
    slot. An arrival: the slot, at the partial sum that was sent, and that the sender has taken its credits so far. A credit: the
    slot the next transfer goes to, and that its arrivals' cell has come so far. -/
def payK (c : Dev nD) : CK → ℕ → Bool → sProp 𝕄
  | kBar, _, true => iprop(anyslot (devR c) (LL 0) 1 ∗ anyslot (devR c) (LL 2) 1 ∗ hold c 1)
  | kBar, _, false => iprop(anyslot (devL c) (LL 1) 1 ∗ anyslot (devL c) (LL 3) 1)
  | kSs ℓ p, _, _ => anyslot c (LL ℓ) p
  | kRs ℓ p, r, _ => iprop(owns (c : Thread nD τ) ((LL ℓ).slot p) fullShare (sent xs ws ℓ (2 * r + 1 - p.val) ((LL ℓ).src c))
      ∗ reached ER (cell ((LL ℓ).src c) (kCr ℓ)) (2 * r + 1 - p.val))
  | kCr ℓ, r, _ => iprop(anyslot ((LL ℓ).dst c) (LL ℓ) (par r) ∗ reached ER (cell ((LL ℓ).dst c) (kRs ℓ (par r))) ((r + 1) / 2) ∗ relay ℓ c (r + 2))
  | kSa j, _, _ => owns (c : Thread nD τ) (rowM BB c) (shq j.val) (constRow (lmax xs ws c))
  | kRa j, _, _ => owns (c : Thread nD τ) (rowM BB (unrot c (j.val + 1))) fullShare (constRow (lmax xs ws (unrot c (j.val + 1))))

instance payK_storable (c : Dev nD) (k : CK) (r : ℕ) (d : Bool) : BI.Storable (upEmb : UEmb _ 𝕄) (payK xs ws c k r d) := by
  match k, d with
  | kBar, true => unfold payK; infer_instance
  | kBar, false => unfold payK; infer_instance
  | kSs ℓ p, _ => unfold payK; infer_instance
  | kRs ℓ p, _ => unfold payK; infer_instance
  | kCr ℓ, _ => unfold payK; infer_instance
  | kSa j, _ => unfold payK; infer_instance
  | kRa j, _ => unfold payK; infer_instance

/-- The ring's schedule. -/
def ringRd : Rounds.Schedule (GSem nD τ sig) Bool 𝕄 where
  duties g r := if g.1.2 = .tc then (keyOf g.2).elim ∅ fun k => dutiesK k r else ∅
  unitless _ := False
  amount g _ _ := (keyOf g.2).elim 1 amountK
  payload g r d := (keyOf g.2).elim iprop(emp) fun k => payK xs ws g.1.1 k r d
  amount_pos g _ _ _ := by
    cases keyOf g.2 with
    | none => exact Nat.one_pos
    | some k => exact amountK_pos k

instance ringRd_payload_storable (g : GSem nD τ sig) (r : ℕ) (d : Bool) :
    BI.Storable (upEmb : UEmb _ 𝕄) ((ringRd xs ws).payload g r d) := by
  show BI.Storable upEmb ((keyOf g.2).elim iprop(emp) fun k => payK xs ws g.1.1 k r d)
  cases keyOf g.2 with
  | none => exact inferInstanceAs (BI.Storable upEmb iprop(emp))
  | some k => exact payK_storable xs ws g.1.1 k r d

theorem duties_cell (c : Dev nD) (k : CK) (r : ℕ) : (ringRd xs ws).duties (cell c k) r = dutiesK k r := by
  show (if (c.tc : Thread nD τ).2 = .tc then (keyOf (csem k)).elim ∅ fun k => dutiesK k r else ∅) = _
  rw [if_pos rfl, keyOf_csem]; rfl
theorem amount_cell (c : Dev nD) (k : CK) (r : ℕ) (d : Bool) : (ringRd xs ws).amount (cell c k) r d = amountK k := by
  show (keyOf (csem k)).elim 1 amountK = _
  rw [keyOf_csem]; rfl
theorem payload_cell (c : Dev nD) (k : CK) (r : ℕ) (d : Bool) : (ringRd xs ws).payload (cell c k) r d = payK xs ws c k r d := by
  show (keyOf (csem k)).elim iprop(emp) (fun k => payK xs ws c k r d) = _
  rw [keyOf_csem]; rfl
theorem expect_cell (c : Dev nD) (k : CK) (r : ℕ) : (ringRd xs ws).expect (cell c k) r = (dutiesK k r).card * amountK k := by
  unfold Schedule.expect Schedule.amountOf
  rw [duties_cell, Finset.sum_congr rfl fun d _ => amount_cell xs ws c k r d, Finset.sum_const, smul_eq_mul]

/-- The number of rounds of a cell. -/
def roundsK : CK → ℕ
  | kBar => 1
  | kSs _ _ => 7
  | kRs _ _ => 7
  | kCr _ => 13
  | kSa _ => 1
  | kRa _ => 1

theorem dutiesK_later (k : CK) (r : ℕ) (h : roundsK k ≤ r) : dutiesK k r = ∅ := by
  match k, h with
  | kBar, h => exact if_neg (Nat.ne_of_gt h)
  | kSs _ _, h => exact if_neg (Nat.not_lt.mpr h)
  | kRs _ _, h => exact if_neg (Nat.not_lt.mpr h)
  | kCr _, h => exact if_neg (Nat.not_lt.mpr h)
  | kSa _, h => exact if_neg (Nat.ne_of_gt h)
  | kRa _, h => exact if_neg (Nat.ne_of_gt h)

/-! ## What a device pays, and when -/

/-- A device's payments: to its neighbours' barriers, the transfers, the credits, and the rows of maxima. -/
abbrev Pay : Type := Bool ⊕ (Fin 14 × Fin 4) ⊕ (Fin 13 × Fin 4) ⊕ Fin 7
@[match_pattern] abbrev pBar (b : Bool) : Pay := .inl b
@[match_pattern] abbrev pSend (t : Fin 14) (ℓ : Fin 4) : Pay := .inr (.inl (t, ℓ))
@[match_pattern] abbrev pCr (n : Fin 13) (ℓ : Fin 4) : Pay := .inr (.inr (.inl (n, ℓ)))
@[match_pattern] abbrev pMax (j : Fin 7) : Pay := .inr (.inr (.inr j))

/-- Whom it pays, -/
def pdev : Pay → Dev nD → Dev nD
  | pBar true, d => devL d
  | pBar false, d => devR d
  | pSend _ ℓ, d => (LL ℓ).dst d
  | pCr _ ℓ, d => (LL ℓ).src d
  | pMax j, d => rot d (j.val + 1)
/-- who pays it, -/
def pinv : Pay → Dev nD → Dev nD
  | pBar true, d => devR d
  | pBar false, d => devL d
  | pSend _ ℓ, d => (LL ℓ).src d
  | pCr _ ℓ, d => (LL ℓ).dst d
  | pMax j, d => unrot d (j.val + 1)
/-- at which cell, -/
def pkey : Pay → CK
  | pBar _ => kBar
  | pSend t ℓ => kRs ℓ (par (t.val + 1))
  | pCr _ ℓ => kCr ℓ
  | pMax j => kRa j
/-- in which of its rounds, -/
def pround : Pay → ℕ
  | pBar _ => 0
  | pSend t _ => t.val / 2
  | pCr n _ => n.val
  | pMax _ => 0
/-- as which duty, -/
def pduty : Pay → Bool
  | pBar b => b
  | _ => false
/-- and as which of its payments. -/
def ptime : Pay → ℕ
  | pBar b => if b then 0 else 1
  | pSend t ℓ => if t.val = 0 then 2 + ℓ.val else 8 * t.val - 1 + 2 * ℓ.val
  | pCr n ℓ => 6 + 8 * n.val + 2 * ℓ.val
  | pMax j => 110 + j.val
/-- The index its units bear: the order of the payments, the two to the barriers at one. -/
def pidx (q : Pay) : ℕ := if ptime q < 2 then 1 else ptime q + 1

theorem pdev_pinv (q : Pay) (c : Dev nD) : pdev q (pinv q c) = c := by
  match q with
  | pBar true => exact devL_devR c
  | pBar false => exact devR_devL c
  | pSend _ ℓ => exact dst_src ℓ c
  | pCr _ ℓ => exact src_dst ℓ c
  | pMax j => exact rot_unrot c j
theorem pinv_pdev (q : Pay) (c : Dev nD) : pinv q (pdev q c) = c := by
  match q with
  | pBar true => exact devR_devL c
  | pBar false => exact devL_devR c
  | pSend _ ℓ => exact src_dst ℓ c
  | pCr _ ℓ => exact dst_src ℓ c
  | pMax j => exact unrot_rot c j

theorem ptime_injective : Function.Injective ptime := by
  have h : ∀ a b : Pay, ptime a = ptime b → a = b := by decide +kernel
  exact fun a b => h a b

/-- The payments from the `i`-th on. -/
abbrev payFrom (i : ℕ) : Finset Pay := Finset.univ.filter fun q => i ≤ ptime q

theorem payFrom_succ {i : ℕ} (q : Pay) (h : ptime q = i) : payFrom i = insert q (payFrom (i + 1)) := by
  ext q'
  rw [Finset.mem_insert, Finset.mem_filter, Finset.mem_filter]
  constructor
  · rintro ⟨-, h'⟩
    by_cases e : ptime q' = i
    · exact Or.inl (ptime_injective (e.trans h.symm))
    · exact Or.inr ⟨Finset.mem_univ _, by omega⟩
  · rintro (rfl | ⟨-, h'⟩)
    · exact ⟨Finset.mem_univ _, by omega⟩
    · exact ⟨Finset.mem_univ _, by omega⟩
theorem not_mem_payFrom {i : ℕ} (q : Pay) (h : ptime q = i) : q ∉ payFrom (i + 1) := by
  rw [Finset.mem_filter]; rintro ⟨-, h'⟩; omega

/-- The units of a payment by device `d`. -/
abbrev dueOf (q : Pay) (d : Dev nD) : CellTallies nD τ sig ℕ := tallyAt (cell (pdev q d) (pkey q)) (pidx q) (amountK (pkey q))
/-- What device `d` owes from its `i`-th payment on. -/
def owedFrom (i : ℕ) (d : Dev nD) : CellTallies nD τ sig ℕ := ∑ q ∈ payFrom i, dueOf q d

theorem owedFrom_succ {i : ℕ} (q : Pay) (h : ptime q = i) (d : Dev nD) : owedFrom i d = owedFrom (i + 1) d + dueOf q d := by
  unfold owedFrom
  rw [payFrom_succ q h, Finset.sum_insert (not_mem_payFrom q h), add_comm]
theorem owedFrom_end (d : Dev nD) : owedFrom 117 d = 0 := by
  unfold owedFrom
  rw [show payFrom 117 = ∅ from by decide +kernel, Finset.sum_empty]

/-- The levels: an index is its own. -/
def lev (g : GSem nD τ sig) : Finset ℕ := if g.1.2 = .tc then Finset.range 200 else ∅
def lv (_ : GSem nD τ sig) (j : ℕ) : ℕ := j

theorem lev_of_ne (g : GSem nD τ sig) (h : g.1.2 ≠ .tc) : lev g = ∅ := if_neg h
theorem lev_tc (c : Dev nD) (s : SemLoc sig) (j : ℕ) (h : j < 200) : j ∈ lev ((c : Thread nD τ), s) := by
  show j ∈ (if (c.tc : Thread nD τ).2 = .tc then Finset.range 200 else ∅)
  rw [if_pos rfl]; exact Finset.mem_range.mpr h

theorem pidx_lt (q : Pay) : pidx q < 200 := by revert q; decide +kernel
theorem pidx_pos (q : Pay) : 0 < pidx q := by unfold pidx; split <;> omega

/-- A device may wait on units below everything it still owes. -/
theorem mayWait_at (c : Dev nD) (s : SemLoc sig) (ι i : ℕ) (hι : ι < 200) (h : ∀ q : Pay, i ≤ ptime q → ι < pidx q) :
    (levAts lev lv : sProp 𝕄) ⊢ MayWait (c : Thread nD τ) s ι (owedFrom i c) :=
  Pipeline.mayWait_of_levAts (lev_tc c s ι hι) fun g j hg => by
    obtain ⟨q, hq, hpos⟩ := Pipeline.sum_pos_exists hg
    unfold dueOf at hpos
    rw [tallyAt_apply] at hpos
    split at hpos
    next e =>
      obtain ⟨e₁, e₂⟩ := e
      subst e₁; subst e₂
      exact ⟨lev_tc _ _ _ (pidx_lt q), h q (Finset.mem_filter.mp hq).2⟩
    next => exact absurd hpos (Nat.lt_irrefl 0)

end Cert.KernelIdeal.Ring
-- ==== Proof.Rules.lean ====
/- The rules for the body's remote operations, at the ring's cells: each signal and transfer pays one of the device's payments,
   each wait takes a round's payloads. -/
module

public import proofs.«01_k».proof.Proof.Sched

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] BB Lane.N Nr

variable {F : FTy → Type} [FloatOps F]

local notation "𝕄" => MT nD τ sig ℕ (Elt F) ℕ UU ℕ

variable (xs : Dev nD → Vec F S4096x512 .f32) (ws : Dev nD → Vec F S512x8192 .f32) (K : Dev nD × CK → ℕ)

/-! ## What every device knows -/

/-- Every cell's invariant, that every cell is at least at its first round, and the levels. -/
def ctx : sProp 𝕄 :=
  iprop((bigSep Finset.univ fun ck : Dev nD × CK => cellInv ER (ringRd xs ws) (K ck) (cell ck.1 ck.2))
    ∗ (bigSep Finset.univ fun ck : Dev nD × CK => reached ER (cell ck.1 ck.2) 0) ∗ levAts lev lv)

instance ctx_persistent : BI.Persistent (ctx xs ws K) := by
  unfold ctx; infer_instance

theorem ctx_inv (c : Dev nD) (k : CK) : ctx xs ws K ⊢ cellInv ER (ringRd xs ws) (K (c, k)) (cell c k) := by
  unfold ctx
  iintro ⟨H, -, -⟩
  iapply (show (bigSep Finset.univ fun ck : Dev nD × CK => cellInv ER (ringRd xs ws) (K ck) (cell ck.1 ck.2) : sProp 𝕄)
    ⊢ cellInv ER (ringRd xs ws) (K (c, k)) (cell c k) from bigSep_elim (Finset.mem_univ (c, k)))
  iexact H
theorem ctx_reached (c : Dev nD) (k : CK) : ctx xs ws K ⊢ reached ER (cell c k) 0 := by
  unfold ctx
  iintro ⟨-, H, -⟩
  iapply (show (bigSep Finset.univ fun ck : Dev nD × CK => reached ER (cell ck.1 ck.2) 0 : sProp 𝕄)
    ⊢ reached ER (cell c k) 0 from bigSep_elim (Finset.mem_univ (c, k)))
  iexact H
theorem ctx_lev : ctx xs ws K ⊢ levAts lev lv := by
  unfold ctx
  iintro ⟨-, -, H⟩
  iexact H

/-- Device `c` owes its payments from the `i`-th on. -/
def owesW (c : Dev nD) (i : ℕ) : sProp 𝕄 := iprop(∃ W, owes (c : Thread nD τ) (owedFrom i c) W)

variable {Q : PQ F} (c : Dev nD)

/-! ## Signals -/

theorem pduty_mem (q : Pay) : pduty q ∈ dutiesK (pkey q) (pround q) := by revert q; decide +kernel

/-- A signal that is the payment `q`. -/
theorem signal_pay (q : Pay) {i : ℕ} (ht : ptime q = i) (s : Sem sig) (hs : csem (pkey q) = .reg s) (h1 : amountK (pkey q) = 1)
    {e : Dev nD} (he : e = pdev q c) {k : P F} :
    iprop(ctx xs ws K ∗ owesW c i ∗ dutyTok ER (cell e (pkey q)) (pround q) (pduty q) ∗ payK xs ws e (pkey q) (pround q) (pduty q)
        ∗ reached ER (cell e (pkey q)) (pround q))
      ⊢ iprop((owesW c (i + 1) -∗ WP c k Q) -∗ WP c (.op (.semSignal (Dev.tc e) s 1) fun _ => k) Q) := by
  subst he
  have rule (W) := Rounds.wp_signal (k := fun _ => k) (Q := Q) 𝒱₀ ER (ringRd xs ws) (c : Thread nD τ) none (dst := (pdev q c : Thread nD τ)) (sem := s) (κ := K (pdev q c, pkey q))
    (defs := defs₀ (F := F)) (Γ := .empty) (Es := Set.univ) (d := pduty q) (r := pround q) (k' := 1)
    (by rw [← hs, duties_cell]; exact pduty_mem q) (by rw [← hs, amount_cell, h1]) (pidx q) (O₀ := owedFrom i c) (W := W) (owedFrom (i + 1) c)
    (by rw [owedFrom_succ q ht c, ← hs]; unfold dueOf; rw [h1])
  rw [← hs] at rule
  unfold owesW
  iintro ⟨#Hc, ⟨%W, HO⟩, Ht, Hp, Hr⟩ Hk
  iapply (rule W) $$ [HO Ht Hp Hr]
  · isplitr; · iapply (ctx_inv xs ws K); iexact Hc
    isplitl [HO]; · iexact HO
    isplitl [Ht]; · iexact Ht
    isplitl [Hp]; · rw [payload_cell]; iexact Hp
    iexact Hr
  iintro HO
  iapply Hk
  iexists W; iexact HO

/-! ## Waits -/

/-- A wait for a whole round of the device's own cell `k`. -/
theorem wait_cell (k : CK) {w : TpuEff nD τ sig (Elt F) Λ₀ .tc PUnit} {n : ℕ}
    (hw : ∀ K' : PUnit → sProp 𝕄, wpE (defs₀ (F := F)) 𝒱₀ (c : Thread nD τ) none Set.univ w K' = waitSpec (c : Thread nD τ) Set.univ (csem k) n K')
    (R : ℕ) (hexp : (dutiesK k R).card * amountK k = n) (ι i : ℕ) (hι : ι < 200) (hlt : ∀ q : Pay, i ≤ ptime q → ι < pidx q) {kk : P F} :
    iprop(ctx xs ws K ∗ cred (tallyAt (cell c k) ι n) ∗ owesW c i ∗ atPos ER (cell c k) R ∅ 0)
      ⊢ iprop((owesW c i ∗ atPos ER (cell c k) (R + 1) ∅ 0 ∗ reached ER (cell c k) (R + 1) ∗ bigSep (dutiesK k R) (fun d => payK xs ws c k R d) -∗ WP c kk Q)
        -∗ WP c (.op w fun _ => kk) Q) := by
  have rule (W) := Rounds.wp_wait_rest_token (k := fun _ => kk) (Q := Q) 𝒱₀ ER (ringRd xs ws) (c : Thread nD τ) none (κ := K (c, k)) (defs := defs₀ (F := F)) (Γ := .empty)
    (Es := Set.univ) (w := w) hw (Set.mem_univ _) ι (O := owedFrom i c) (W := W) (R := R) (m := 0) (T := ∅)
    (by rw [Nat.zero_add, show ((c : Thread nD τ), csem k) = cell c k from rfl, expect_cell, hexp])
  simp only [Finset.sdiff_empty, duties_cell, payload_cell] at rule
  unfold owesW
  iintro ⟨#Hc, Hcr, ⟨%W, HO⟩, Hat⟩ Hk
  iapply (rule W) $$ [Hcr HO Hat]
  · isplitr; · iapply (ctx_inv xs ws K); iexact Hc
    isplitl [Hcr]; · iexact Hcr
    isplitl [HO]; · iexact HO
    isplitr
    · iapply (mayWait_at c (csem k) ι i hι hlt)
      iapply (ctx_lev xs ws K); iexact Hc
    iexact Hat
  iintro ⟨HO, Hat, Hr, Hp⟩
  iapply Hk
  isplitl [HO]; · iexists _; iexact HO
  isplitl [Hat]; · iexact Hat
  isplitl [Hr]; · iexact Hr
  iexact Hp

/-- The same of a cell whose round has the one duty. -/
theorem wait_one (k : CK) {w : TpuEff nD τ sig (Elt F) Λ₀ .tc PUnit} {n : ℕ}
    (hw : ∀ K' : PUnit → sProp 𝕄, wpE (defs₀ (F := F)) 𝒱₀ (c : Thread nD τ) none Set.univ w K' = waitSpec (c : Thread nD τ) Set.univ (csem k) n K')
    (R : ℕ) (hd : dutiesK k R = {false}) (hn : amountK k = n) (ι i : ℕ) (hι : ι < 200) (hlt : ∀ q : Pay, i ≤ ptime q → ι < pidx q) {kk : P F} :
    iprop(ctx xs ws K ∗ cred (tallyAt (cell c k) ι n) ∗ owesW c i ∗ atPos ER (cell c k) R ∅ 0)
      ⊢ iprop((owesW c i ∗ atPos ER (cell c k) (R + 1) ∅ 0 ∗ reached ER (cell c k) (R + 1) ∗ payK xs ws c k R false -∗ WP c kk Q)
        -∗ WP c (.op w fun _ => kk) Q) := by
  have := wait_cell xs ws K (Q := Q) c k hw R (by rw [hd, Finset.card_singleton, Nat.one_mul]; exact hn) ι i hι hlt (kk := kk)
  rwa [hd, bigSep_singleton] at this

/-- A cell whose rounds are over is closed: its counter is the device's again, at zero. -/
theorem close_cell (k : CK) : iprop(ctx xs ws K ∗ atPos ER (cell c k) (roundsK k) ∅ 0) ⊢ (|={Set.univ}=> semVal (cell c k) 0 : sProp 𝕄) := by
  iintro ⟨#Hc, Hat⟩
  iapply (Rounds.cell_close ER (ringRd xs ws) (Set.mem_univ (K (c, k))) (fun h => h) (R := roundsK k)
    (fun r hr => (duties_cell xs ws c k r).trans (dutiesK_later k r hr)))
  isplitr; · iapply (ctx_inv xs ws K); iexact Hc
  iexact Hat

/-! ## Transfers -/

theorem parity (t : ℕ) : 2 * (t / 2) + 1 - (par (t + 1)).val = t := by
  show 2 * (t / 2) + 1 - (t + 1) % 2 = t
  omega

/-- A slot that was sent comes back, -/
theorem left_slot (L : Lane) (p : Fin 2) (fs : Buf (Elt F) ((L.slot p).view.loc (c : Thread nD τ))) :
    ((L.slot p).view.loc (c : Thread nD τ) ↦[(L.slot p).view.set]{fullShare} fs : sProp 𝕄) ⊢ anyslot c L p := by
  unfold anyslot owns
  iintro H
  iexists _; iexists fs
  isplitr; · ipureintro; rfl
  iexact H
/-- and a memref that a transfer has written holds what was sent. -/
theorem landed_owns {cs : CoreSpace} {s : Shape} {e : EltTy} (src dst : Memref sig Kind.tc cs s e) (c c' : Dev nD)
    (fs : Buf (Elt F) (src.view.loc (c : Thread nD τ))) (fd : Buf (Elt F) (dst.view.loc (c' : Thread nD τ))) :
    (dst.view.loc (c' : Thread nD τ) ↦[dst.view.set]{fullShare} (dst.view.write (Elt F) fd (src.view.read (Elt F) fs) Finset.univ) : sProp 𝕄)
      ⊢ owns (c' : Thread nD τ) dst fullShare (src.view.read (Elt F) fs) := by
  unfold owns
  iintro H
  iexists _
  isplitr
  · ipureintro; exact View.read_write_univ fd _
  · iexact H

set_option maxHeartbeats 1000000 in
/-- Transfer `t` of lane `ℓ`. -/
theorem send_lane (ℓ : Fin 4) (t : Fin 14) {i : ℕ} (ht : ptime (pSend t ℓ) = i) {k : P F} :
    iprop(ctx xs ws K ∗ owesW c i ∗ owns (c : Thread nD τ) ((LL ℓ).slot (par t.val)) fullShare (sent xs ws ℓ t.val c)
        ∗ anyslot ((LL ℓ).dst c) (LL ℓ) (par (t.val + 1))
        ∗ dutyTok ER (cell c (kSs ℓ (par t.val))) (t.val / 2) false ∗ reached ER (cell c (kSs ℓ (par t.val))) (t.val / 2)
        ∗ dutyTok ER (cell ((LL ℓ).dst c) (kRs ℓ (par (t.val + 1)))) (t.val / 2) false ∗ reached ER (cell ((LL ℓ).dst c) (kRs ℓ (par (t.val + 1)))) (t.val / 2)
        ∗ reached ER (cell c (kCr ℓ)) t.val)
      ⊢ iprop((cred (tallyAt (cell c (kSs ℓ (par t.val))) 0 (LL ℓ).N) ∗ owesW c (i + 1) -∗ WP c k Q)
        -∗ WP c (sendS (LL ℓ) c (par t.val) (par (t.val + 1)) k) Q) := by
  have hlt : t.val / 2 < 7 := by omega
  have hd₁ : false ∈ (ringRd xs ws).duties (cell c (kSs ℓ (par t.val))) (t.val / 2) := by
    rw [duties_cell]; show false ∈ (if _ then _ else _); rw [if_pos hlt]; exact Finset.mem_singleton_self _
  have hd₂ : false ∈ (ringRd xs ws).duties (cell ((LL ℓ).dst c) (kRs ℓ (par (t.val + 1)))) (t.val / 2) := by
    rw [duties_cell]; show false ∈ (if _ then _ else _); rw [if_pos hlt]; exact Finset.mem_singleton_self _
  have hpay : iprop(owns ((LL ℓ).dst c : Thread nD τ) ((LL ℓ).slot (par (t.val + 1))) fullShare (sent xs ws ℓ t.val c) ∗ reached ER (cell c (kCr ℓ)) t.val)
      ⊢ payK xs ws ((LL ℓ).dst c) (kRs ℓ (par (t.val + 1))) (t.val / 2) false := by
    show _ ⊢ iprop(owns ((LL ℓ).dst c : Thread nD τ) ((LL ℓ).slot (par (t.val + 1))) fullShare (sent xs ws ℓ (2 * (t.val / 2) + 1 - (par (t.val + 1)).val) ((LL ℓ).src ((LL ℓ).dst c)))
        ∗ reached ER (cell ((LL ℓ).src ((LL ℓ).dst c)) (kCr ℓ)) (2 * (t.val / 2) + 1 - (par (t.val + 1)).val))
    rw [parity, src_dst]
  generalize sent xs ws ℓ t.val c = X at hpay ⊢
  unfold owesW anyslot
  iintro ⟨#Hc, ⟨%W, HO⟩, Hs, ⟨%Y, Hd⟩, Ht1, Hr1, Ht2, Hr2, Hr3⟩ Hk
  unfold owns
  icases Hs with ⟨%fs, %hfs, Hs⟩
  icases Hd with ⟨%fd, %hfd, Hd⟩
  have rule := Rounds.wp_send_pointsTo_with (k := fun _ => k) (Q := Q) 𝒱₀ ER (ringRd xs ws) (c : Thread nD τ) none (c' := ((LL ℓ).dst c : Thread nD τ)) (defs := defs₀ (F := F)) (Γ := .empty)
    (src := (LL ℓ).slot (par t.val)) (dst := (LL ℓ).slot (par (t.val + 1))) (sS := csem (kSs ℓ (par t.val))) (sem := csem (kRs ℓ (par (t.val + 1))))
    (hsc := rfl) (hsrc := (LL ℓ).slot_exact (par t.val)) (hdst := (LL ℓ).slot_exact (par (t.val + 1))) (hsem := ⟨⟨rfl, Or.inl rfl⟩, trivial⟩)
    (κ₁ := K (c, kSs ℓ (par t.val))) (κ₂ := K ((LL ℓ).dst c, kRs ℓ (par (t.val + 1)))) (r₁ := t.val / 2) (r₂ := t.val / 2) (d₁ := false) (d₂ := false) (q := fullShare) (fs := fs) (fd := fd)
    (F := reached ER (cell c (kCr ℓ)) t.val) (Es := Set.univ) (O₀ := owedFrom i c) (W := W) hd₁ hd₂
    (pidx (pSend t ℓ)) 0 (LL ℓ).N (slot_amount (LL ℓ) _ _) (amount_cell xs ws c (kSs ℓ (par t.val)) _ false) (amount_cell xs ws ((LL ℓ).dst c) (kRs ℓ (par (t.val + 1))) _ false)
    (owedFrom (i + 1) c) (owedFrom_succ (pSend t ℓ) ht c)
    ((left_slot c (LL ℓ) (par t.val) fs).trans (Entails.of_eq (payload_cell xs ws c (kSs ℓ (par t.val)) _ false).symm))
    (((sep_mono_left ((landed_owns ((LL ℓ).slot (par t.val)) ((LL ℓ).slot (par (t.val + 1))) c ((LL ℓ).dst c) fs fd).trans
      (Entails.of_eq (congrArg (owns ((LL ℓ).dst c : Thread nD τ) ((LL ℓ).slot (par (t.val + 1))) fullShare) hfs)))).trans hpay).trans
      (Entails.of_eq (payload_cell xs ws ((LL ℓ).dst c) (kRs ℓ (par (t.val + 1))) _ false).symm))
  iapply rule $$ [HO Hs Hd Ht1 Hr1 Ht2 Hr2 Hr3]
  · isplitr; · iapply (ctx_inv xs ws K c (kSs ℓ (par t.val))); iexact Hc
    isplitr; · iapply (ctx_inv xs ws K ((LL ℓ).dst c) (kRs ℓ (par (t.val + 1)))); iexact Hc
    isplitl [Hs]; · iexact Hs
    isplitl [Hd Hr3]
    · isplitl [Hd]; · iexact Hd
      iexact Hr3
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hcr]; · iexact Hcr
  iexists W; iexact HO

set_option maxHeartbeats 1000000 in
/-- The transfer of the own row of maxima to peer `j`. -/
theorem send_row_at (j : Fin 7) {i : ℕ} (ht : ptime (pMax j) = i) {off : Fin 3 → ℕ} {h} (hoff : off = ![c.val, 0, 0]) {p : Dev nD} (hp : p = rot c (j.val + 1))
    {hsc hsrc hdst hsem} {k : P F} :
    iprop(ctx xs ws K ∗ owesW c i ∗ owns (c : Thread nD τ) (rowM BB c) (shq j.val) (constRow (lmax xs ws c)) ∗ anyrow (rot c (j.val + 1)) BB c
        ∗ dutyTok ER (cell c (kSa j)) 0 false ∗ dutyTok ER (cell (rot c (j.val + 1)) (kRa j)) 0 false)
      ⊢ iprop((cred (tallyAt (cell c (kSa j)) 0 Nr) ∗ owesW c (i + 1) -∗ WP c k Q)
        -∗ WP c (.op (.enqueueDma (row BB off h) (.remote (Dev.tc p) (row BB off h) (.dma (semAt7 BB.sa j)) hsc) (.dma (semAt7 BB.ra j)) hsrc hdst hsem) fun _ => k) Q) := by
  subst hoff hp
  have hd₁ : false ∈ (ringRd xs ws).duties (cell c (kSa j)) 0 := by rw [duties_cell]; exact Finset.mem_singleton_self _
  have hd₂ : false ∈ (ringRd xs ws).duties (cell (rot c (j.val + 1)) (kRa j)) 0 := by rw [duties_cell]; exact Finset.mem_singleton_self _
  have hpay₁ : owns (c : Thread nD τ) (rowM BB c) (shq j.val) (constRow (lmax xs ws c)) ⊢ payK xs ws c (kSa j) 0 false := .rfl
  have hpay₂ : owns (rot c (j.val + 1) : Thread nD τ) (rowM BB c) fullShare (constRow (lmax xs ws c)) ⊢ payK xs ws (rot c (j.val + 1)) (kRa j) 0 false := by
    show _ ⊢ owns (rot c (j.val + 1) : Thread nD τ) (rowM BB (unrot (rot c (j.val + 1)) (j.val + 1))) fullShare (constRow (lmax xs ws (unrot (rot c (j.val + 1)) (j.val + 1))))
    rw [unrot_rot]
  generalize constRow (lmax xs ws c) = X at hpay₁ hpay₂ ⊢
  unfold owesW anyrow
  iintro ⟨#Hc, ⟨%W, HO⟩, Hs, ⟨%Y, Hd⟩, Ht1, Ht2⟩ Hk
  have hs (fs : Buf (Elt F) ((rowM BB c).view.loc (c : Thread nD τ))) (hfs : (rowM BB c).view.read (Elt F) fs = X) :
      ((rowM BB c).view.loc (c : Thread nD τ) ↦[(rowM BB c).view.set]{shq j.val} fs : sProp 𝕄) ⊢ owns (c : Thread nD τ) (rowM BB c) (shq j.val) X := by
    unfold owns
    iintro H
    iexists fs
    isplitr; · ipureintro; exact hfs
    iexact H
  unfold owns
  icases Hs with ⟨%fs, %hfs, Hs⟩
  icases Hd with ⟨%fd, %hfd, Hd⟩
  have rule := Rounds.wp_send_pointsTo (k := fun _ => k) (Q := Q) 𝒱₀ ER (ringRd xs ws) (c : Thread nD τ) none (c' := (rot c (j.val + 1) : Thread nD τ)) (defs := defs₀ (F := F)) (Γ := .empty)
    (src := rowM BB c) (dst := rowM BB c) (sS := csem (kSa j)) (sem := csem (kRa j)) (hsc := hsc) (hsrc := hsrc) (hdst := hdst) (hsem := hsem)
    (κ₁ := K (c, kSa j)) (κ₂ := K (rot c (j.val + 1), kRa j)) (r₁ := 0) (r₂ := 0) (d₁ := false) (d₂ := false) (q := shq j.val) (fs := fs) (fd := fd)
    (Es := Set.univ) (O₀ := owedFrom i c) (W := W) hd₁ hd₂
    (pidx (pMax j)) 0 Nr (row_amount c _) (amount_cell xs ws c (kSa j) _ false) (amount_cell xs ws (rot c (j.val + 1)) (kRa j) _ false)
    (owedFrom (i + 1) c) (owedFrom_succ (pMax j) ht c)
    (((hs fs hfs).trans hpay₁).trans (Entails.of_eq (payload_cell xs ws c (kSa j) _ false).symm))
    ((((landed_owns (rowM BB c) (rowM BB c) c (rot c (j.val + 1)) fs fd).trans
      (Entails.of_eq (congrArg (owns (rot c (j.val + 1) : Thread nD τ) (rowM BB c) fullShare) hfs))).trans hpay₂).trans
      (Entails.of_eq (payload_cell xs ws (rot c (j.val + 1)) (kRa j) _ false).symm))
  iapply rule $$ [HO Hs Hd Ht1 Ht2]
  · isplitr; · iapply (ctx_inv xs ws K c (kSa j)); iexact Hc
    isplitr; · iapply (ctx_inv xs ws K (rot c (j.val + 1)) (kRa j)); iexact Hc
    isplitl [Hs]; · iexact Hs
    isplitl [Hd]; · iexact Hd
    isplitl [HO]; · iexact HO
    isplitl [Ht1]; · iexact Ht1
    isplitr; · iapply (ctx_reached xs ws K c (kSa j)); iexact Hc
    isplitl [Ht2]; · iexact Ht2
    iapply (ctx_reached xs ws K (rot c (j.val + 1)) (kRa j)); iexact Hc
  iintro ⟨Hcr, HO⟩
  iapply Hk
  isplitl [Hcr]; · iexact Hcr
  iexists W; iexact HO

theorem send_row (j : Fin 7) {i : ℕ} (ht : ptime (pMax j) = i) {k : P F} :
    iprop(ctx xs ws K ∗ owesW c i ∗ owns (c : Thread nD τ) (rowM BB c) (shq j.val) (constRow (lmax xs ws c)) ∗ anyrow (rot c (j.val + 1)) BB c
        ∗ dutyTok ER (cell c (kSa j)) 0 false ∗ dutyTok ER (cell (rot c (j.val + 1)) (kRa j)) 0 false)
      ⊢ iprop((cred (tallyAt (cell c (kSa j)) 0 Nr) ∗ owesW c (i + 1) -∗ WP c k Q) -∗ WP c (sendA BB c j k) Q) :=
  send_row_at xs ws K c j ht (k0_off6_eq c) (peer_eq c j)

end Cert.KernelIdeal.Ring
-- ==== Proof.Steps.lean ====
/- One lane's steps: what each does to the lane's state. -/
module

public import Idealize.SL.BI.BigOpNat
public import proofs.«01_k».proof.Proof.Rules

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem waitS_spec (c : Dev nD) (L : Lane) (s : DmaSem sig) (p p' : Fin 2) (K' : PUnit → sProp 𝕄) :
    wpE (defs₀ (F := F)) 𝒱₀ (c : Thread nD τ) none Set.univ (.waitDma2 s (L.slot p) (L.slot p') (L.slot_exact p) (L.slot_exact p')) K'
      = waitSpec (c : Thread nD τ) Set.univ (.dma s) L.N K' :=
  wpE_waitDma2_eq 𝒱₀ (c : Thread nD τ) none Set.univ K'

attribute [local irreducible] BB Lane.N Nr

variable (xs : Dev nD → Vec F S4096x512 .f32) (ws : Dev nD → Vec F S512x8192 .f32) (K : Dev nD × CK → ℕ)
variable {Q : PQ F} (c : Dev nD)

/-! ## The rows lent on -/

/-- Lane 0's stock of lent rows at stage `k`; the other lanes have none. -/
def stash (ℓ : Fin 4) (c : Dev nD) (k : ℕ) : sProp 𝕄 := if ℓ = 0 then iprop(kept c k ∗ hold c k) else iprop(emp)
/-- What is left of it when the next stage's rows have been handed on. -/
def stash' (ℓ : Fin 4) (c : Dev nD) (k : ℕ) : sProp 𝕄 := if ℓ = 0 then kept c k else iprop(emp)

theorem unrot_rot_at (c : Dev nD) (k : ℕ) (h : k < 8) : unrot (rot c k) k = c :=
  Fin.ext (by show ((c.val + k) % 8 + (8 - k)) % 8 = c.val; have : c.val < 8 := c.isLt; omega)

theorem hold_give (c : Dev nD) (k : ℕ) (h1 : 1 ≤ k) : (iprop(kept c k ∗ hold c k) : sProp 𝕄) ⊢ iprop(kept c (k + 1) ∗ hold (devL c) (k + 1)) := by
  unfold kept hold
  rw [rot_devL]
  by_cases h : k < 8
  · rw [bigSep_Ico_succ_bot h, Nat.min_eq_left (Nat.le_of_lt h), Nat.min_eq_left h, bigSep_Ico_succ_top h1, unrot_rot_at c k h]
    iintro ⟨H1, H2, H3⟩
    isplitl [H1 H2]
    · isplitl [H2]; · iexact H2
      iexact H1
    iexact H3
  · rw [Nat.min_eq_right (by omega), Nat.min_eq_right (by omega), Finset.Ico_eq_empty h, Finset.Ico_eq_empty (by omega : ¬k + 1 < 8)]

theorem stash_give (ℓ : Fin 4) (c : Dev nD) (k : ℕ) (h1 : 1 ≤ k) : (stash ℓ c k : sProp 𝕄) ⊢ iprop(stash' ℓ c (k + 1) ∗ relay ℓ ((LL ℓ).src c) (k + 1)) := by
  unfold stash stash' relay
  by_cases h : ℓ = 0
  · subst h
    rw [if_pos rfl, if_pos rfl, if_pos rfl]
    have e : (LL 0).src c = devL c := by unfold LL BB; rfl
    rw [e]
    exact hold_give c k h1
  · rw [if_neg h, if_neg h, if_neg h]
    iintro -
    isplitl <;> iempintro

theorem stash_take (ℓ : Fin 4) (c : Dev nD) (k : ℕ) : (iprop(stash' ℓ c k ∗ relay ℓ c k) : sProp 𝕄) ⊢ stash ℓ c k := by
  unfold stash stash' relay
  by_cases h : ℓ = 0
  · rw [if_pos h, if_pos h, if_pos h]
  · rw [if_neg h, if_neg h, if_neg h]
    iintro -
    iempintro

/-! ## A lane's state -/

/-- When transfer `n` is paid. -/
def stime (n : ℕ) (ℓ : Fin 4) : ℕ := if n = 0 then 2 + ℓ.val else 8 * n - 1 + 2 * ℓ.val

theorem pidx_send (t : Fin 14) (ℓ : Fin 4) : pidx (pSend t ℓ) = stime t.val ℓ + 1 := by
  revert t ℓ; decide +kernel
theorem lt_pidx {ι i : ℕ} (h2 : 2 ≤ i) (h : ι ≤ i) (q : Pay) (hq : i ≤ ptime q) : ι < pidx q := by
  unfold pidx; rw [if_neg (by omega)]; omega
theorem zero_lt_pidx {i : ℕ} (q : Pay) (hq : i ≤ ptime q) : 0 < pidx q := pidx_pos q

/-- What lane `ℓ` needs for transfer `t`: the right to pay its departure and its arrival, and the credit for its own arrival. -/
def supS (c : Dev nD) (t : ℕ) (ℓ : Fin 4) : sProp 𝕄 :=
  iprop(dutyTok ER (cell c (kSs ℓ (par t))) (t / 2) false ∗ dutyTok ER (cell ((LL ℓ).dst c) (kRs ℓ (par (t + 1)))) (t / 2) false
    ∗ cred (tallyAt (cell c (kRs ℓ (par (t + 1)))) (stime t ℓ + 1) (LL ℓ).N))
/-- What it needs for credit `n`: the right to pay it upstream, and the credit for its own. -/
def supC (c : Dev nD) (n : ℕ) (ℓ : Fin 4) : sProp 𝕄 :=
  iprop(dutyTok ER (cell ((LL ℓ).src c) (kCr ℓ)) n false ∗ cred (tallyAt (cell c (kCr ℓ)) (7 + 8 * n + 2 * ℓ.val) 1))

/-- Lane `ℓ` once transfer `n` has been sent: where its cells are, the credits for the transfer's departure and arrival, the
    scratch block, and the lent rows. -/
def laneAt (c : Dev nD) (ℓ : Fin 4) (n : ℕ) : sProp 𝕄 :=
  iprop(atPos ER (cell c (kSs ℓ (par n))) (n / 2) ∅ 0 ∗ atPos ER (cell c (kSs ℓ (par (n + 1)))) ((n + 1) / 2) ∅ 0
    ∗ atPos ER (cell c (kRs ℓ (par (n + 1)))) (n / 2) ∅ 0 ∗ atPos ER (cell c (kRs ℓ (par n))) ((n + 1) / 2) ∅ 0
    ∗ atPos ER (cell c (kCr ℓ)) n ∅ 0
    ∗ cred (tallyAt (cell c (kSs ℓ (par n))) 0 (LL ℓ).N) ∗ cred (tallyAt (cell c (kRs ℓ (par (n + 1)))) (stime n ℓ + 1) (LL ℓ).N)
    ∗ reached ER (cell c (kSs ℓ (par (n + 1)))) ((n + 1) / 2) ∗ reached ER (cell c (kRs ℓ (par n))) ((n + 1) / 2)
    ∗ anytmp c (LL ℓ) ∗ stash ℓ c (n + 1))

/-- Lane `ℓ` before the first transfer: its slot 0, the neighbour's slot 1, its cells at their beginning. -/
def laneBegin (c : Dev nD) (ℓ : Fin 4) : sProp 𝕄 :=
  iprop(anyslot c (LL ℓ) 0 ∗ anyslot ((LL ℓ).dst c) (LL ℓ) 1
    ∗ atPos ER (cell c (kSs ℓ 0)) 0 ∅ 0 ∗ atPos ER (cell c (kSs ℓ 1)) 0 ∅ 0 ∗ atPos ER (cell c (kRs ℓ 1)) 0 ∅ 0 ∗ atPos ER (cell c (kRs ℓ 0)) 0 ∅ 0
    ∗ atPos ER (cell c (kCr ℓ)) 0 ∅ 0 ∗ anytmp c (LL ℓ) ∗ stash ℓ c 1)

/-- Lane `ℓ` at the end: its buffers again, its cells at their end. -/
def laneEnd (c : Dev nD) (ℓ : Fin 4) : sProp 𝕄 :=
  iprop(anyslot c (LL ℓ) 0 ∗ anyslot c (LL ℓ) 1
    ∗ atPos ER (cell c (kSs ℓ 0)) 7 ∅ 0 ∗ atPos ER (cell c (kSs ℓ 1)) 7 ∅ 0 ∗ atPos ER (cell c (kRs ℓ 1)) 7 ∅ 0 ∗ atPos ER (cell c (kRs ℓ 0)) 7 ∅ 0
    ∗ atPos ER (cell c (kCr ℓ)) 13 ∅ 0 ∗ anytmp c (LL ℓ) ∗ stash ℓ c 14)

theorem par_two (n : ℕ) : par (n + 2) = par n := Fin.ext (Nat.add_mod_right n 2)

/-! ## The parts of a step -/

/-- The first partial product of a pass goes into slot `p`. -/
theorem init_lane (ℓ : Fin 4) (b : ℕ) (h : b + 1024 ≤ 8192) (p : Fin 2) (x : Vec F S512x512 .f32) {k : P F} :
    iprop(owns (c : Thread nD τ) BB.w fullShare (ws c) ∗ anyslot c (LL ℓ) p)
      ⊢ iprop((owns (c : Thread nD τ) BB.w fullShare (ws c) ∗ owns (c : Thread nD τ) ((LL ℓ).slot p) fullShare (sq (k0_pay4 (prod x (cols (ws c) b h)))) -∗ WP c k Q)
        -∗ WP c (initS BB (LL ℓ) b h p x k) Q) := by
  unfold initS anyslot
  iintro ⟨Hw, ⟨%X, Hs⟩⟩ Hk
  iapply (loadW_own c BB b h) $$ Hw
  iintro Hw
  iapply (loadS_own c (LL ℓ) p) $$ Hs
  iintro Hs
  iapply (storeS_own c (LL ℓ) p) $$ Hs
  iintro Hs
  iapply Hk
  isplitl [Hw]; · iexact Hw
  iexact Hs

/-- The product with the chunk coming in, and the wait for arrival `n`. -/
theorem recv_lane (ℓ : Fin 4) (n : ℕ) (hn : n < 14) (b : ℕ) (h : b + 1024 ≤ 8192) (x : Vec F S512x512 .f32) (i : ℕ) (hi : stime n ℓ + 1 ≤ i) (hi2 : i < 200)
    {k : Vec F S1x512x1024 .bf16 → Vec F S512x1024 .f32 → P F} :
    iprop(ctx xs ws K ∗ owesW c i ∗ owns (c : Thread nD τ) BB.w fullShare (ws c) ∗ anytmp c (LL ℓ)
        ∗ cred (tallyAt (cell c (kRs ℓ (par (n + 1)))) (stime n ℓ + 1) (LL ℓ).N) ∗ atPos ER (cell c (kRs ℓ (par (n + 1)))) (n / 2) ∅ 0)
      ⊢ iprop((owesW c i ∗ owns (c : Thread nD τ) BB.w fullShare (ws c) ∗ anytmp c (LL ℓ)
          ∗ atPos ER (cell c (kRs ℓ (par (n + 1)))) ((n + 2) / 2) ∅ 0 ∗ reached ER (cell c (kRs ℓ (par (n + 1)))) ((n + 2) / 2)
          ∗ owns (c : Thread nD τ) ((LL ℓ).slot (par (n + 1))) fullShare (sent xs ws ℓ n ((LL ℓ).src c)) ∗ reached ER (cell ((LL ℓ).src c) (kCr ℓ)) n
            -∗ WP c (k (unsq (sent xs ws ℓ n ((LL ℓ).src c))) (k0_pay10 x (cols (ws c) b h))) Q)
        -∗ WP c (recvS BB (LL ℓ) b h (par (n + 1)) (par n) x k) Q) := by
  have h2 : 2 ≤ stime n ℓ := by unfold stime; split <;> omega
  have hd : dutiesK (kRs ℓ (par (n + 1))) (n / 2) = {false} := if_pos (by omega)
  have hpay : (payK xs ws c (kRs ℓ (par (n + 1))) (n / 2) false : sProp 𝕄)
      = iprop(owns (c : Thread nD τ) ((LL ℓ).slot (par (n + 1))) fullShare (sent xs ws ℓ n ((LL ℓ).src c)) ∗ reached ER (cell ((LL ℓ).src c) (kCr ℓ)) n) := by
    show iprop(owns (c : Thread nD τ) ((LL ℓ).slot (par (n + 1))) fullShare (sent xs ws ℓ (2 * (n / 2) + 1 - (par (n + 1)).val) ((LL ℓ).src c))
      ∗ reached ER (cell ((LL ℓ).src c) (kCr ℓ)) (2 * (n / 2) + 1 - (par (n + 1)).val)) = _
    rw [parity]
  generalize sent xs ws ℓ n ((LL ℓ).src c) = X at hpay ⊢
  unfold recvS anytmp
  iintro ⟨#Hc, HO, Hw, ⟨%T, Ht⟩, Hcr, Hat⟩ Hk
  iapply (loadW_own c BB b h) $$ Hw
  iintro Hw
  iapply (loadT_own c (LL ℓ)) $$ Ht
  iintro Ht
  iapply (storeT_own c (LL ℓ)) $$ Ht
  iintro Ht
  iapply (wait_one xs ws K c (kRs ℓ (par (n + 1))) (fun K' => waitS_spec c (LL ℓ) _ _ _ K') (n / 2) hd rfl (stime n ℓ + 1) i (by omega)
    (lt_pidx (by omega) hi)) $$ [HO Hcr Hat]
  · isplitr; · iexact Hc
    isplitl [Hcr]; · iexact Hcr
    isplitl [HO]; · iexact HO
    iexact Hat
  rw [hpay, show n / 2 + 1 = (n + 2) / 2 from by omega]
  iintro ⟨HO, Hat, Hr, Hs, Hr2⟩
  iapply (loadS_own c (LL ℓ) (par (n + 1))) $$ Hs
  iintro Hs
  iapply (loadT_own c (LL ℓ)) $$ Ht
  iintro Ht
  iapply Hk
  isplitl [HO]; · iexact HO
  isplitl [Hw]; · iexact Hw
  isplitl [Ht]; · iexists _; iexact Ht
  isplitl [Hat]; · iexact Hat
  isplitl [Hr]; · iexact Hr
  isplitl [Hs]; · iexact Hs
  iexact Hr2

/-- The wait for departure `n`: its slot is the device's again. -/
theorem done_lane (ℓ : Fin 4) (n : ℕ) (hn : n < 14) (p₁ p₂ : Fin 2) (i : ℕ) {k : P F} :
    iprop(ctx xs ws K ∗ cred (tallyAt (cell c (kSs ℓ (par n))) 0 (LL ℓ).N) ∗ owesW c i ∗ atPos ER (cell c (kSs ℓ (par n))) (n / 2) ∅ 0)
      ⊢ iprop((owesW c i ∗ atPos ER (cell c (kSs ℓ (par n))) ((n + 2) / 2) ∅ 0 ∗ reached ER (cell c (kSs ℓ (par n))) ((n + 2) / 2) ∗ anyslot c (LL ℓ) (par n) -∗ WP c k Q)
        -∗ WP c (waitS (LL ℓ) (semAt (LL ℓ).ss (par n)) p₁ p₂ k) Q) := by
  have hd : dutiesK (kSs ℓ (par n)) (n / 2) = {false} := if_pos (by omega)
  have := wait_one xs ws K (Q := Q) c (kSs ℓ (par n)) (fun K' => waitS_spec c (LL ℓ) (semAt (LL ℓ).ss (par n)) p₁ p₂ K') (n / 2) hd rfl 0 i (by omega) zero_lt_pidx (kk := k)
  rwa [show n / 2 + 1 = (n + 2) / 2 from by omega] at this

/-- Giving credit `n`: the slot that departure `n` left, and the rows lent on. -/
theorem give_lane (ℓ : Fin 4) (n : ℕ) (hn : n < 13) {i : ℕ} (hi : i = 6 + 8 * n + 2 * ℓ.val) {k : P F} :
    iprop(ctx xs ws K ∗ owesW c i ∗ dutyTok ER (cell ((LL ℓ).src c) (kCr ℓ)) n false ∗ reached ER (cell ((LL ℓ).src c) (kCr ℓ)) n
        ∗ anyslot c (LL ℓ) (par n) ∗ reached ER (cell c (kRs ℓ (par n))) ((n + 1) / 2) ∗ stash ℓ c (n + 1))
      ⊢ iprop((owesW c (i + 1) ∗ stash' ℓ c (n + 2) -∗ WP c k Q) -∗ WP c (giveC (LL ℓ) c k) Q) := by
  subst hi
  have hpay : (payK xs ws ((LL ℓ).src c) (kCr ℓ) n false : sProp 𝕄)
      = iprop(anyslot c (LL ℓ) (par n) ∗ reached ER (cell c (kRs ℓ (par n))) ((n + 1) / 2) ∗ relay ℓ ((LL ℓ).src c) (n + 2)) := by
    show iprop(anyslot ((LL ℓ).dst ((LL ℓ).src c)) (LL ℓ) (par n) ∗ reached ER (cell ((LL ℓ).dst ((LL ℓ).src c)) (kRs ℓ (par n))) ((n + 1) / 2) ∗ relay ℓ ((LL ℓ).src c) (n + 2)) = _
    rw [dst_src]
  iintro ⟨#Hc, HO, Ht, Hr, Hs, Hr2, Hst⟩ Hk
  ihave Hst2 := (stash_give ℓ c (n + 1) (by omega)) $$ Hst
  icases Hst2 with ⟨Hst, Hrel⟩
  iapply (signal_pay xs ws K c (pCr ⟨n, hn⟩ ℓ) (i := 6 + 8 * n + 2 * ℓ.val) rfl (LL ℓ).cr rfl rfl (e := (LL ℓ).src c) rfl) $$ [HO Ht Hr Hs Hr2 Hrel]
  · isplitr; · iexact Hc
    isplitl [HO]; · iexact HO
    isplitl [Ht]; · iexact Ht
    isplitl [Hs Hr2 Hrel]
    · rw [show (payK xs ws ((LL ℓ).src c) (pkey (pCr ⟨n, hn⟩ ℓ)) (pround (pCr ⟨n, hn⟩ ℓ)) (pduty (pCr ⟨n, hn⟩ ℓ)) : sProp 𝕄) = _ from hpay]
      isplitl [Hs]; · iexact Hs
      isplitl [Hr2]; · iexact Hr2
      iexact Hrel
    iexact Hr
  iintro HO
  iapply Hk
  isplitl [HO]; · iexact HO
  iexact Hst

/-- Taking credit `n`: the slot the next transfer goes to. -/
theorem take_lane (ℓ : Fin 4) (n : ℕ) (hn : n < 13) {i : ℕ} (hi : i = 7 + 8 * n + 2 * ℓ.val) {k : P F} :
    iprop(ctx xs ws K ∗ owesW c i ∗ cred (tallyAt (cell c (kCr ℓ)) (7 + 8 * n + 2 * ℓ.val) 1) ∗ atPos ER (cell c (kCr ℓ)) n ∅ 0 ∗ stash' ℓ c (n + 2))
      ⊢ iprop((owesW c i ∗ atPos ER (cell c (kCr ℓ)) (n + 1) ∅ 0 ∗ reached ER (cell c (kCr ℓ)) (n + 1) ∗ anyslot ((LL ℓ).dst c) (LL ℓ) (par n)
          ∗ reached ER (cell ((LL ℓ).dst c) (kRs ℓ (par n))) ((n + 1) / 2) ∗ stash ℓ c (n + 2) -∗ WP c k Q)
        -∗ WP c (takeC (LL ℓ) k) Q) := by
  subst hi
  have hd : dutiesK (kCr ℓ) n = {false} := if_pos hn
  iintro ⟨#Hc, HO, Hcr, Hat, Hst⟩ Hk
  iapply (wait_one xs ws K c (kCr ℓ) (fun K' => wpE_semWait_eq 𝒱₀ (c : Thread nD τ) none Set.univ K') n hd rfl (7 + 8 * n + 2 * ℓ.val) (7 + 8 * n + 2 * ℓ.val) (by omega)
    (lt_pidx (by omega) le_rfl)) $$ [HO Hcr Hat]
  · isplitr; · iexact Hc
    isplitl [Hcr]; · iexact Hcr
    isplitl [HO]; · iexact HO
    iexact Hat
  rw [show (payK xs ws c (kCr ℓ) n false : sProp 𝕄)
    = iprop(anyslot ((LL ℓ).dst c) (LL ℓ) (par n) ∗ reached ER (cell ((LL ℓ).dst c) (kRs ℓ (par n))) ((n + 1) / 2) ∗ relay ℓ c (n + 2)) from rfl]
  iintro ⟨HO, Hat, Hr, Hs, Hr2, Hrel⟩
  iapply Hk
  isplitl [HO]; · iexact HO
  isplitl [Hat]; · iexact Hat
  isplitl [Hr]; · iexact Hr
  isplitl [Hs]; · iexact Hs
  isplitl [Hr2]; · iexact Hr2
  iapply (stash_take ℓ c (n + 2))
  isplitl [Hst]; · iexact Hst
  iexact Hrel

/-! ## The steps -/

/-- The first transfer of a lane. -/
theorem begin_lane (ℓ : Fin 4) {i : ℕ} (hi : i = 2 + ℓ.val) {k : P F} :
    iprop(ctx xs ws K ∗ owesW c i ∗ owns (c : Thread nD τ) BB.w fullShare (ws c) ∗ laneBegin c ℓ ∗ supS c 0 ℓ)
      ⊢ iprop((owesW c (i + 1) ∗ owns (c : Thread nD τ) BB.w fullShare (ws c) ∗ laneAt c ℓ 0 -∗ WP c k Q)
        -∗ WP c (initS BB (LL ℓ) (LL ℓ).base (base_lo _) 0 (xin xs ℓ c) <| sendS (LL ℓ) c 0 1 k) Q) := by
  unfold laneBegin supS laneAt
  iintro ⟨#Hc, HO, Hw, ⟨Hs, Hd, Ha1, Ha2, Ha3, Ha4, Ha5, Ht, Hst⟩, ⟨Ht1, Ht2, Hcr⟩⟩ Hk
  iapply (init_lane ws c ℓ (LL ℓ).base (base_lo _) 0 (xin xs ℓ c)) $$ [Hw Hs]
  · isplitl [Hw]; · iexact Hw
    iexact Hs
  iintro ⟨Hw, Hs⟩
  iapply (send_lane xs ws K c ℓ 0 (i := i) (hi ▸ rfl)) $$ [HO Hs Hd Ht1 Ht2]
  · isplitr; · iexact Hc
    isplitl [HO]; · iexact HO
    isplitl [Hs]; · iexact Hs
    isplitl [Hd]; · iexact Hd
    isplitl [Ht1]; · iexact Ht1
    isplitr; · iapply (ctx_reached xs ws K c (kSs ℓ 0)); iexact Hc
    isplitl [Ht2]; · iexact Ht2
    isplitr; · iapply (ctx_reached xs ws K ((LL ℓ).dst c) (kRs ℓ 1)); iexact Hc
    iapply (ctx_reached xs ws K c (kCr ℓ)); iexact Hc
  iintro ⟨Hcs, HO⟩
  iapply Hk
  isplitl [HO]; · iexact HO
  isplitl [Hw]; · iexact Hw
  isplitl [Ha1]; · iexact Ha1
  isplitl [Ha2]; · iexact Ha2
  isplitl [Ha3]; · iexact Ha3
  isplitl [Ha4]; · iexact Ha4
  isplitl [Ha5]; · iexact Ha5
  isplitl [Hcs]; · iexact Hcs
  isplitl [Hcr]; · iexact Hcr
  isplitr; · iapply (ctx_reached xs ws K c (kSs ℓ 1)); iexact Hc
  isplitr; · iapply (ctx_reached xs ws K c (kRs ℓ 0)); iexact Hc
  isplitl [Ht]; · iexact Ht
  iexact Hst

set_option maxHeartbeats 800000 in
/-- A step in the middle of a pass. -/
theorem mid_lane (ℓ : Fin 4) (n : ℕ) (hn : n < 13) {i : ℕ} (hi : i = 6 + 8 * n + 2 * ℓ.val) (b : ℕ) (h : b + 1024 ≤ 8192) (x : Vec F S512x512 .f32)
    (hx : sq (k0_pay11 (unsq (sent xs ws ℓ n ((LL ℓ).src c))) (k0_pay10 x (cols (ws c) b h))) = sent xs ws ℓ (n + 1) c) {k : P F} :
    iprop(ctx xs ws K ∗ owesW c i ∗ owns (c : Thread nD τ) BB.w fullShare (ws c) ∗ laneAt c ℓ n ∗ supS c (n + 1) ℓ ∗ supC c n ℓ)
      ⊢ iprop((owesW c (i + 2) ∗ owns (c : Thread nD τ) BB.w fullShare (ws c) ∗ laneAt c ℓ (n + 1) -∗ WP c k Q)
        -∗ WP c (midS BB (LL ℓ) c b h (par (n + 1)) (par n) x k) Q) := by
  have hst : stime (n + 1) ℓ = i + 1 := by unfold stime; rw [if_neg (by omega)]; omega
  have hst0 : stime n ℓ + 1 ≤ i := by unfold stime; split <;> omega
  unfold midS laneAt supS supC
  rw [show n + 1 + 1 = n + 2 from rfl, par_two]
  iintro ⟨#Hc, HO, Hw, ⟨Ha1, Ha2, Ha3, Ha4, Ha5, Hcs, Hcr, Hr1, Hr2, Ht, Hst⟩, ⟨Ht1, Ht2, Hcr'⟩, ⟨Ht3, Hcc⟩⟩ Hk
  iapply (recv_lane xs ws K c ℓ n (by omega) b h x i hst0 (by omega)) $$ [HO Hw Ht Hcr Ha3]
  · isplitr; · iexact Hc
    isplitl [HO]; · iexact HO
    isplitl [Hw]; · iexact Hw
    isplitl [Ht]; · iexact Ht
    isplitl [Hcr]; · iexact Hcr
    iexact Ha3
  iintro ⟨HO, Hw, Ht, Ha3, Hr3, Hs, Hr4⟩
  iapply (loadS_own c (LL ℓ) (par (n + 1))) $$ Hs
  iintro Hs
  iapply (storeS_own c (LL ℓ) (par (n + 1))) $$ Hs
  iintro Hs
  rw [hx]
  iapply (done_lane xs ws K c ℓ n (by omega) (par (n + 1)) (par n) i) $$ [HO Hcs Ha1]
  · isplitr; · iexact Hc
    isplitl [Hcs]; · iexact Hcs
    isplitl [HO]; · iexact HO
    iexact Ha1
  iintro ⟨HO, Ha1, Hr5, Hd⟩
  iapply (give_lane xs ws K c ℓ n hn hi) $$ [HO Ht3 Hr4 Hd Hr2 Hst]
  · isplitr; · iexact Hc
    isplitl [HO]; · iexact HO
    isplitl [Ht3]; · iexact Ht3
    isplitl [Hr4]; · iexact Hr4
    isplitl [Hd]; · iexact Hd
    isplitl [Hr2]; · iexact Hr2
    iexact Hst
  iintro ⟨HO, Hst⟩
  iapply (take_lane xs ws K c ℓ n hn (i := i + 1) (by omega)) $$ [HO Hcc Ha5 Hst]
  · isplitr; · iexact Hc
    isplitl [HO]; · iexact HO
    isplitl [Hcc]; · iexact Hcc
    isplitl [Ha5]; · iexact Ha5
    iexact Hst
  iintro ⟨HO, Ha5, Hr6, Hd, Hr7, Hst⟩
  have rule := send_lane xs ws K c (Q := Q) ℓ ⟨n + 1, by omega⟩ (i := i + 1) hst (k := k)
  simp only [show n + 1 + 1 = n + 2 from rfl, par_two] at rule
  iapply rule $$ [HO Hs Hd Ht1 Hr1 Ht2 Hr7 Hr6]
  · isplitr; · iexact Hc
    isplitl [HO]; · iexact HO
    isplitl [Hs]; · iexact Hs
    isplitl [Hd]; · iexact Hd
    isplitl [Ht1]; · iexact Ht1
    isplitl [Hr1]; · iexact Hr1
    isplitl [Ht2]; · iexact Ht2
    isplitl [Hr7]; · iexact Hr7
    iexact Hr6
  iintro ⟨Hcs, HO⟩
  iapply Hk
  isplitl [HO]; · iexact HO
  isplitl [Hw]; · iexact Hw
  isplitl [Ha2]; · iexact Ha2
  isplitl [Ha1]; · iexact Ha1
  isplitl [Ha4]; · iexact Ha4
  isplitl [Ha3]; · iexact Ha3
  isplitl [Ha5]; · iexact Ha5
  isplitl [Hcs]; · iexact Hcs
  isplitl [Hcr']; · iexact Hcr'
  isplitl [Hr5]; · iexact Hr5
  isplitl [Hr3]; · iexact Hr3
  isplitl [Ht]; · iexact Ht
  iexact Hst

/-- The block that a lane's first pass ends in. -/
def lblk : Fin 4 → Fin 8 := four 0 2 1 3
def hblk : Fin 4 → Fin 8 := four 4 6 5 7
theorem lblk_base (ℓ : Fin 4) : (LL ℓ).base = (lblk ℓ).val * 1024 := by unfold LL BB; revert ℓ; decide
theorem hblk_base (ℓ : Fin 4) : (LL ℓ).base + 4096 = (hblk ℓ).val * 1024 := by unfold LL BB; revert ℓ; decide

set_option maxHeartbeats 800000 in
/-- The step between the passes. -/
theorem turn_lane (ℓ : Fin 4) {i : ℕ} (hi : i = 54 + 2 * ℓ.val) (f : Fin 8 → FVec F S512x1024 .f32) (am : F .f32) {k : F .f32 → P F} :
    iprop(ctx xs ws K ∗ owesW c i ∗ owns (c : Thread nD τ) BB.w fullShare (ws c) ∗ owns (c : Thread nD τ) BB.o fullShare (glue f)
        ∗ laneAt c ℓ 6 ∗ supS c 7 ℓ ∗ supC c 6 ℓ)
      ⊢ iprop((owesW c (i + 2) ∗ owns (c : Thread nD τ) BB.w fullShare (ws c) ∗ owns (c : Thread nD τ) BB.o fullShare (glue (Function.update f (lblk ℓ) (resLo xs ws ℓ c)))
          ∗ laneAt c ℓ 7 -∗ WP c (k (resmax am (resLo xs ws ℓ c))) Q)
        -∗ WP c (turnS BB (LL ℓ) c (xch xs ℓ 6 c) (xin xs ℓ c) am k) Q) := by
  have hst : stime 7 ℓ = i + 1 := by unfold stime; rw [if_neg (by omega)]; omega
  have hst0 : stime 6 ℓ + 1 ≤ i := by unfold stime; rw [if_neg (by omega)]; omega
  have hx : sq (k0_pay4 (prod (xin xs ℓ c) (cols (ws c) ((LL ℓ).base + 4096) (base_hi _)))) = sent xs ws ℓ 7 c := by
    show _ = (if 7 = 7 then _ else _); rw [if_pos rfl]; rfl
  have hres : k0_pay79 (unsq (sent xs ws ℓ 6 ((LL ℓ).src c))) (k0_pay10 (xch xs ℓ 6 c) (cols (ws c) (LL ℓ).base (base_lo _))) = resLo xs ws ℓ c := rfl
  unfold turnS laneAt supS supC
  iintro ⟨#Hc, HO, Hw, Ho, ⟨Ha1, Ha2, Ha3, Ha4, Ha5, Hcs, Hcr, Hr1, Hr2, Ht, Hst⟩, ⟨Ht1, Ht2, Hcr'⟩, ⟨Ht3, Hcc⟩⟩ Hk
  iapply (recv_lane xs ws K c ℓ 6 (by omega) (LL ℓ).base (base_lo _) (xch xs ℓ 6 c) i hst0 (by omega)) $$ [HO Hw Ht Hcr Ha3]
  · isplitr; · iexact Hc
    isplitl [HO]; · iexact HO
    isplitl [Hw]; · iexact Hw
    isplitl [Ht]; · iexact Ht
    isplitl [Hcr]; · iexact Hcr
    iexact Ha3
  iintro ⟨HO, Hw, Ht, Ha3, Hr3, Hs, Hr4⟩
  rw [hres]
  iapply (loadO_own c BB (LL ℓ).base (base_lo _) (lblk ℓ) (lblk_base ℓ)) $$ Ho
  iintro Ho
  iapply (storeO_own c BB (LL ℓ).base (base_lo _) (lblk ℓ) (lblk_base ℓ)) $$ Ho
  iintro Ho
  iapply (done_lane xs ws K c ℓ 6 (by omega) 1 0 i) $$ [HO Hcs Ha1]
  · isplitr; · iexact Hc
    isplitl [Hcs]; · iexact Hcs
    isplitl [HO]; · iexact HO
    iexact Ha1
  iintro ⟨HO, Ha1, Hr5, Hd⟩
  iapply (give_lane xs ws K c ℓ 6 (by omega) hi) $$ [HO Ht3 Hr4 Hd Hr2 Hst]
  · isplitr; · iexact Hc
    isplitl [HO]; · iexact HO
    isplitl [Ht3]; · iexact Ht3
    isplitl [Hr4]; · iexact Hr4
    isplitl [Hd]; · iexact Hd
    isplitl [Hr2]; · iexact Hr2
    iexact Hst
  iintro ⟨HO, Hst⟩
  iapply (init_lane ws c ℓ ((LL ℓ).base + 4096) (base_hi _) 1 (xin xs ℓ c)) $$ [Hw Hs]
  · isplitl [Hw]; · iexact Hw
    unfold anyslot; iexists _; iexact Hs
  rw [hx]
  iintro ⟨Hw, Hs⟩
  iapply (take_lane xs ws K c ℓ 6 (by omega) (i := i + 1) (by omega)) $$ [HO Hcc Ha5 Hst]
  · isplitr; · iexact Hc
    isplitl [HO]; · iexact HO
    isplitl [Hcc]; · iexact Hcc
    isplitl [Ha5]; · iexact Ha5
    iexact Hst
  iintro ⟨HO, Ha5, Hr6, Hd, Hr7, Hst⟩
  iapply (send_lane xs ws K c ℓ 7 (i := i + 1) hst) $$ [HO Hs Hd Ht1 Hr1 Ht2 Hr7 Hr6]
  · isplitr; · iexact Hc
    isplitl [HO]; · iexact HO
    isplitl [Hs]; · iexact Hs
    isplitl [Hd]; · iexact Hd
    isplitl [Ht1]; · iexact Ht1
    isplitl [Hr1]; · iexact Hr1
    isplitl [Ht2]; · iexact Ht2
    isplitl [Hr7]; · iexact Hr7
    iexact Hr6
  iintro ⟨Hcs, HO⟩
  iapply Hk
  isplitl [HO]; · iexact HO
  isplitl [Hw]; · iexact Hw
  isplitl [Ho]; · iexact Ho
  isplitl [Ha2]; · iexact Ha2
  isplitl [Ha1]; · iexact Ha1
  isplitl [Ha4]; · iexact Ha4
  isplitl [Ha3]; · iexact Ha3
  isplitl [Ha5]; · iexact Ha5
  isplitl [Hcs]; · iexact Hcs
  isplitl [Hcr']; · iexact Hcr'
  isplitl [Hr5]; · iexact Hr5
  isplitl [Hr3]; · iexact Hr3
  isplitl [Ht]; · iexact Ht
  iexact Hst

set_option maxHeartbeats 800000 in
/-- The step that ends the second pass. -/
theorem last_lane (ℓ : Fin 4) (f : Fin 8 → FVec F S512x1024 .f32) (am : F .f32) {k : F .f32 → P F} :
    iprop(ctx xs ws K ∗ owesW c 110 ∗ owns (c : Thread nD τ) BB.w fullShare (ws c) ∗ owns (c : Thread nD τ) BB.o fullShare (glue f) ∗ laneAt c ℓ 13)
      ⊢ iprop((owesW c 110 ∗ owns (c : Thread nD τ) BB.w fullShare (ws c) ∗ owns (c : Thread nD τ) BB.o fullShare (glue (Function.update f (hblk ℓ) (resHi xs ws ℓ c)))
          ∗ laneEnd c ℓ -∗ WP c (k (resmax am (resHi xs ws ℓ c))) Q)
        -∗ WP c (lastS BB (LL ℓ) (xch xs ℓ 6 c) am k) Q) := by
  have hst0 : stime 13 ℓ + 1 ≤ 110 := by unfold stime; rw [if_neg (by omega)]; omega
  have hres : k0_pay79 (unsq (sent xs ws ℓ 13 ((LL ℓ).src c))) (k0_pay10 (xch xs ℓ 6 c) (cols (ws c) ((LL ℓ).base + 4096) (base_hi _))) = resHi xs ws ℓ c := rfl
  unfold lastS laneAt laneEnd
  iintro ⟨#Hc, HO, Hw, Ho, ⟨Ha1, Ha2, Ha3, Ha4, Ha5, Hcs, Hcr, -, -, Ht, Hst⟩⟩ Hk
  iapply (recv_lane xs ws K c ℓ 13 (by omega) ((LL ℓ).base + 4096) (base_hi _) (xch xs ℓ 6 c) 110 hst0 (by omega)) $$ [HO Hw Ht Hcr Ha3]
  · isplitr; · iexact Hc
    isplitl [HO]; · iexact HO
    isplitl [Hw]; · iexact Hw
    isplitl [Ht]; · iexact Ht
    isplitl [Hcr]; · iexact Hcr
    iexact Ha3
  iintro ⟨HO, Hw, Ht, Ha3, -, Hs, -⟩
  rw [hres]
  iapply (loadO_own c BB ((LL ℓ).base + 4096) (base_hi _) (hblk ℓ) (hblk_base ℓ)) $$ Ho
  iintro Ho
  iapply (storeO_own c BB ((LL ℓ).base + 4096) (base_hi _) (hblk ℓ) (hblk_base ℓ)) $$ Ho
  iintro Ho
  iapply (done_lane xs ws K c ℓ 13 (by omega) 0 1 110) $$ [HO Hcs Ha1]
  · isplitr; · iexact Hc
    isplitl [Hcs]; · iexact Hcs
    isplitl [HO]; · iexact HO
    iexact Ha1
  iintro ⟨HO, Ha1, -, Hd⟩
  iapply Hk
  isplitl [HO]; · iexact HO
  isplitl [Hw]; · iexact Hw
  isplitl [Ho]; · iexact Ho
  isplitl [Hs]; · unfold anyslot; iexists _; iexact Hs
  isplitl [Hd]; · iexact Hd
  isplitl [Ha2]; · iexact Ha2
  isplitl [Ha1]; · iexact Ha1
  isplitl [Ha4]; · iexact Ha4
  isplitl [Ha3]; · iexact Ha3
  isplitl [Ha5]; · iexact Ha5
  isplitl [Ht]; · iexact Ht
  iexact Hst

end Cert.KernelIdeal.Ring
-- ==== Proof.Run.lean ====
/- One device's run of the body: the steps of the four lanes in turn, the exchange of the maxima, and the quantisation. -/
module

public import proofs.«01_k».proof.Proof.Steps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem waitA_spec (c : Dev nD) (s : DmaSem sig) (off : Fin 3 → ℕ) (h) {h₁ h₂} (K' : PUnit → sProp 𝕄) :
    wpE (defs₀ (F := F)) 𝒱₀ (c : Thread nD τ) none Set.univ (.waitDma2 s (row BB off h) (row BB off h) h₁ h₂) K' = waitSpec (c : Thread nD τ) Set.univ (.dma s) Nr K' :=
  wpE_waitDma2_eq 𝒱₀ (c : Thread nD τ) none Set.univ K'

theorem dst_lane0 (c : Dev nD) : (LL 0).dst c = devR c := rfl
theorem dst_lane1 (c : Dev nD) : (LL 1).dst c = devL c := rfl
theorem dst_lane2 (c : Dev nD) : (LL 2).dst c = devR c := rfl
theorem dst_lane3 (c : Dev nD) : (LL 3).dst c = devL c := rfl

attribute [local irreducible] BB Lane.N Nr

variable (xs : Dev nD → Vec F S4096x512 .f32) (ws : Dev nD → Vec F S512x8192 .f32) (K : Dev nD × CK → ℕ)
variable {Q : PQ F} (c : Dev nD)

/-! ## Families -/

/-- One for each lane. -/
def quad (f : Fin 4 → sProp 𝕄) : sProp 𝕄 := iprop(f 0 ∗ f 1 ∗ f 2 ∗ f 3)
theorem quad_eq (f : Fin 4 → sProp 𝕄) : bigSep Finset.univ f = quad f := by
  rw [bigSep_univ_eq_bigSepL [0, 1, 2, 3] (by decide) (by decide)]
  rfl

/-- The `j`-th of seven. -/
def f7 (j : ℕ) : Fin 7 := ⟨j % 7, Nat.mod_lt j (by decide)⟩
theorem f7_val (j : Fin 7) : f7 j.val = j := Fin.ext (Nat.mod_eq_of_lt j.isLt)
theorem seven_eq (f : Fin 7 → sProp 𝕄) : bigSep Finset.univ f = bigSep (Finset.Ico 0 7) fun j => f (f7 j) := by
  rw [show Finset.Ico 0 7 = Finset.univ.map (Fin.valEmbedding : Fin 7 ↪ ℕ) from by decide, bigSep_map]
  exact bigSep_congr fun j _ => congrArg f (f7_val j).symm

/-- The cells of a device, kind by kind. -/
theorem cells_eq (f : CK → sProp 𝕄) : bigSep Finset.univ f
    = iprop(f kBar ∗ (quad fun ℓ => iprop(f (kSs ℓ 0) ∗ f (kSs ℓ 1))) ∗ (quad fun ℓ => iprop(f (kRs ℓ 0) ∗ f (kRs ℓ 1))) ∗ (quad fun ℓ => f (kCr ℓ))
      ∗ (bigSep (Finset.Ico 0 7) fun j => f (kSa (f7 j))) ∗ (bigSep (Finset.Ico 0 7) fun j => f (kRa (f7 j)))) := by
  rw [bigSep_univ_sum, bigSep_univ_sum, bigSep_univ_sum, bigSep_univ_sum, bigSep_univ_sum, bigSep_univ_prod, bigSep_univ_prod]
  rw [bigSep_univ_of_subsingleton ()]
  simp only [bigSep_fin_two, quad_eq, seven_eq]
  rfl

theorem unrot_succ_injective : ∀ c : Fin 8, Function.Injective fun j : Fin 7 => (unrot c (j.val + 1) : Fin 8) := by decide +kernel
/-- The rows of a device's table: its own, and the others'. -/
theorem rows_eq (f : Fin 8 → sProp 𝕄) : bigSep Finset.univ f = iprop(f c ∗ bigSep (Finset.Ico 0 7) fun j => f (unrot c (j + 1))) := by
  have hcov : ∀ c : Fin 8, (Finset.univ : Finset (Fin 8)) = insert c (Finset.univ.map ⟨fun j : Fin 7 => (unrot c (j.val + 1) : Fin 8), unrot_succ_injective c⟩) := by decide +kernel
  have hnot : ∀ c : Fin 8, c ∉ (Finset.univ.map ⟨fun j : Fin 7 => (unrot c (j.val + 1) : Fin 8), unrot_succ_injective c⟩) := by decide +kernel
  rw [hcov c, bigSep_insert (hnot c), bigSep_map,
    show Finset.Ico 0 7 = Finset.univ.map (Fin.valEmbedding : Fin 7 ↪ ℕ) from by decide, bigSep_map]
  rfl

theorem shift_eq (f : ℕ → sProp 𝕄) : bigSep (Finset.Ico 1 8) f = bigSep (Finset.Ico 0 7) fun j => f (j + 1) := by
  rw [show Finset.Ico 1 8 = (Finset.Ico 0 7).map ⟨Nat.succ, Nat.succ_injective⟩ from by decide, bigSep_map]
  rfl

/-! ## The lanes together -/

/-- What the lanes need from transfer `n + 1` and credit `n` on. -/
def supFrom (c : Dev nD) (n m : ℕ) : sProp 𝕄 :=
  iprop((bigSep (Finset.Ico n 14) fun t => quad (supS c t)) ∗ (bigSep (Finset.Ico m 13) fun t => quad (supC c t)))

/-- The lanes once transfer `n` has been sent on each, and what they need for the rest. -/
def allAt (c : Dev nD) (n : ℕ) : sProp 𝕄 := iprop(quad (fun ℓ => laneAt c ℓ n) ∗ supFrom c (n + 1) n)

theorem supFrom_peel (c : Dev nD) (n m : ℕ) (hn : n < 14) (hm : m < 13) :
    (supFrom c n m : sProp 𝕄) = iprop((quad (supS c n) ∗ bigSep (Finset.Ico (n + 1) 14) fun t => quad (supS c t)) ∗ (quad (supC c m) ∗ bigSep (Finset.Ico (m + 1) 13) fun t => quad (supC c t))) := by
  unfold supFrom
  rw [bigSep_Ico_succ_bot hn, bigSep_Ico_succ_bot hm]

set_option maxHeartbeats 800000 in
/-- A middle step, on every lane. -/
theorem mid_step (n e : ℕ) (he : e ≤ 4096) (s : Fin 7) (hn : n < 13) (hs : n % 7 = s.val) (h6 : s.val < 6) (hp : passAt n = e) {k : P F} :
    iprop(ctx xs ws K ∗ owesW c (6 + 8 * n) ∗ owns (c : Thread nD τ) BB.x fullShare (xs c) ∗ owns (c : Thread nD τ) BB.w fullShare (ws c) ∗ allAt c n)
      ⊢ iprop((owesW c (6 + 8 * (n + 1)) ∗ owns (c : Thread nD τ) BB.x fullShare (xs c) ∗ owns (c : Thread nD τ) BB.w fullShare (ws c) ∗ allAt c (n + 1) -∗ WP c k Q)
        -∗ WP c (midStep BB c e he s (par (n + 1)) (par n) k) Q) := by
  have hx (ℓ : Fin 4) : sq (k0_pay11 (unsq (sent xs ws ℓ n ((LL ℓ).src c))) (k0_pay10 (xch xs ℓ s c) (cols (ws c) ((LL ℓ).base + e) (by have := (LL ℓ).hbase; omega)))) = sent xs ws ℓ (n + 1) c := by
    obtain rfl : s = ⟨n % 7, Nat.mod_lt n (by decide)⟩ := Fin.ext hs.symm
    subst hp
    show _ = (if n + 1 = 7 then _ else _)
    rw [if_neg (by have : n % 7 < 6 := h6; omega)]
    rfl
  unfold midStep loadXs allAt
  rw [supFrom_peel c (n + 1) n (by omega) (by omega)]
  unfold supFrom quad
  iintro ⟨#Hc, HO, Hx, Hw, ⟨HL0, HL1, HL2, HL3⟩, ⟨⟨HS0, HS1, HS2, HS3⟩, HS⟩, ⟨⟨HC0, HC1, HC2, HC3⟩, HC⟩⟩ Hk
  iapply (loadX_own c BB _ _) $$ Hx
  iintro Hx
  iapply (loadX_own c BB _ _) $$ Hx
  iintro Hx
  iapply (mid_lane xs ws K c 0 n hn (i := 6 + 8 * n) rfl ((LL 0).base + e) _ (xch xs 0 s c) (hx 0)) $$ [HO Hw HL0 HS0 HC0]
  · isplitr; · iexact Hc
    isplitl [HO]; · iexact HO
    isplitl [Hw]; · iexact Hw
    isplitl [HL0]; · iexact HL0
    isplitl [HS0]; · iexact HS0
    iexact HC0
  iintro ⟨HO, Hw, HL0⟩
  iapply (mid_lane xs ws K c 1 n hn (i := 6 + 8 * n + 2) rfl ((LL 1).base + e) _ (xch xs 1 s c) (hx 1)) $$ [HO Hw HL1 HS1 HC1]
  · isplitr; · iexact Hc
    isplitl [HO]; · iexact HO
    isplitl [Hw]; · iexact Hw
    isplitl [HL1]; · iexact HL1
    isplitl [HS1]; · iexact HS1
    iexact HC1
  iintro ⟨HO, Hw, HL1⟩
  iapply (mid_lane xs ws K c 2 n hn (i := 6 + 8 * n + 4) rfl ((LL 2).base + e) _ (xch xs 2 s c) (hx 2)) $$ [HO Hw HL2 HS2 HC2]
  · isplitr; · iexact Hc
    isplitl [HO]; · iexact HO
    isplitl [Hw]; · iexact Hw
    isplitl [HL2]; · iexact HL2
    isplitl [HS2]; · iexact HS2
    iexact HC2
  iintro ⟨HO, Hw, HL2⟩
  iapply (mid_lane xs ws K c 3 n hn (i := 6 + 8 * n + 6) rfl ((LL 3).base + e) _ (xch xs 3 s c) (hx 3)) $$ [HO Hw HL3 HS3 HC3]
  · isplitr; · iexact Hc
    isplitl [HO]; · iexact HO
    isplitl [Hw]; · iexact Hw
    isplitl [HL3]; · iexact HL3
    isplitl [HS3]; · iexact HS3
    iexact HC3
  iintro ⟨HO, Hw, HL3⟩
  iapply Hk
  isplitl [HO]; · iexact HO
  isplitl [Hx]; · iexact Hx
  isplitl [Hw]; · iexact Hw
  isplitl [HL0 HL1 HL2 HL3]
  · isplitl [HL0]; · iexact HL0
    isplitl [HL1]; · iexact HL1
    isplitl [HL2]; · iexact HL2
    iexact HL3
  isplitl [HS]; · iexact HS
  iexact HC

/-- Middle steps in a row. -/
theorem mid_steps (q e : ℕ) (he : e ≤ 4096) (hq : ∀ s, s < 6 → q + s < 13 ∧ (q + s) % 7 = s ∧ passAt (q + s) = e) {k : P F} :
    (m s : ℕ) → (h : s + m ≤ 7) → s + m ≤ 6 →
    (iprop(ctx xs ws K ∗ owesW c (6 + 8 * (q + s)) ∗ owns (c : Thread nD τ) BB.x fullShare (xs c) ∗ owns (c : Thread nD τ) BB.w fullShare (ws c) ∗ allAt c (q + s))
      ⊢ iprop((owesW c (6 + 8 * (q + (s + m))) ∗ owns (c : Thread nD τ) BB.x fullShare (xs c) ∗ owns (c : Thread nD τ) BB.w fullShare (ws c) ∗ allAt c (q + (s + m)) -∗ WP c k Q)
        -∗ WP c (midSteps BB c e he q k m s h) Q))
  | 0, s, h, h6 => by
    iintro ⟨#Hc, H⟩ Hk
    iapply Hk; iexact H
  | m + 1, s, h, h6 => by
    obtain ⟨h1, h2, h3⟩ := hq s (by omega)
    have hs : s < 7 := by omega
    have h' : s + 1 + m ≤ 7 := by omega
    iintro ⟨#Hc, H⟩ Hk
    unfold midSteps
    iapply (mid_step xs ws K c (q + s) e he ⟨s, hs⟩ h1 h2 (by show s < 6; omega) h3) $$ [H]
    · isplitr; · iexact Hc
      iexact H
    iintro H
    iapply (mid_steps q e he hq m (s + 1) h' (by omega)) $$ [H]
    · isplitr; · iexact Hc
      iexact H
    rw [show s + 1 + m = s + (m + 1) from by omega]
    iexact Hk

/-- The result after the first pass, over what was there. -/
def afterLo (c : Dev nD) (f : Fin 8 → FVec F S512x1024 .f32) : Fin 8 → FVec F S512x1024 .f32 :=
  Function.update (Function.update (Function.update (Function.update f 0 (resLo xs ws 0 c)) 2 (resLo xs ws 1 c)) 1 (resLo xs ws 2 c)) 3 (resLo xs ws 3 c)
def afterHi (c : Dev nD) (f : Fin 8 → FVec F S512x1024 .f32) : Fin 8 → FVec F S512x1024 .f32 :=
  Function.update (Function.update (Function.update (Function.update f 4 (resHi xs ws 0 c)) 6 (resHi xs ws 1 c)) 5 (resHi xs ws 2 c)) 7 (resHi xs ws 3 c)
/-- Both passes write every block. -/
theorem after_eq (f : Fin 8 → FVec F S512x1024 .f32) : afterHi xs ws c (afterLo xs ws c f) = resAll xs ws c := by
  funext g
  match g with
  | 0 => rfl
  | 1 => rfl
  | 2 => rfl
  | 3 => rfl
  | 4 => rfl
  | 5 => rfl
  | 6 => rfl
  | 7 => rfl

set_option maxHeartbeats 800000 in
/-- The step between the passes, on every lane. -/
theorem turn_step (f : Fin 8 → FVec F S512x1024 .f32) {k : F .f32 → P F} :
    iprop(ctx xs ws K ∗ owesW c 54 ∗ owns (c : Thread nD τ) BB.x fullShare (xs c) ∗ owns (c : Thread nD τ) BB.w fullShare (ws c)
        ∗ owns (c : Thread nD τ) BB.o fullShare (glue f) ∗ allAt c 6)
      ⊢ iprop((owesW c 62 ∗ owns (c : Thread nD τ) BB.x fullShare (xs c) ∗ owns (c : Thread nD τ) BB.w fullShare (ws c)
          ∗ owns (c : Thread nD τ) BB.o fullShare (glue (afterLo xs ws c f)) ∗ allAt c 7 -∗ WP c (k (lmaxLo xs ws c)) Q)
        -∗ WP c (turnStep BB c (Scalar.ofBits .f32 0x00000000#32) k) Q) := by
  unfold turnStep loadXs loadXi allAt
  rw [supFrom_peel c 7 6 (by omega) (by omega)]
  unfold supFrom quad
  iintro ⟨#Hc, HO, Hx, Hw, Ho, ⟨HL0, HL1, HL2, HL3⟩, ⟨⟨HS0, HS1, HS2, HS3⟩, HS⟩, ⟨⟨HC0, HC1, HC2, HC3⟩, HC⟩⟩ Hk
  iapply (loadX_own c BB _ _) $$ Hx
  iintro Hx
  iapply (loadX_own c BB _ _) $$ Hx
  iintro Hx
  iapply (loadX_own c BB _ _) $$ Hx
  iintro Hx
  iapply (loadX_own c BB _ _) $$ Hx
  iintro Hx
  iapply (turn_lane xs ws K c 0 (i := 54) rfl) $$ [HO Hw Ho HL0 HS0 HC0]
  · isplitr; · iexact Hc
    isplitl [HO]; · iexact HO
    isplitl [Hw]; · iexact Hw
    isplitl [Ho]; · iexact Ho
    isplitl [HL0]; · iexact HL0
    isplitl [HS0]; · iexact HS0
    iexact HC0
  iintro ⟨HO, Hw, Ho, HL0⟩
  iapply (turn_lane xs ws K c 1 (i := 56) rfl) $$ [HO Hw Ho HL1 HS1 HC1]
  · isplitr; · iexact Hc
    isplitl [HO]; · iexact HO
    isplitl [Hw]; · iexact Hw
    isplitl [Ho]; · iexact Ho
    isplitl [HL1]; · iexact HL1
    isplitl [HS1]; · iexact HS1
    iexact HC1
  iintro ⟨HO, Hw, Ho, HL1⟩
  iapply (turn_lane xs ws K c 2 (i := 58) rfl) $$ [HO Hw Ho HL2 HS2 HC2]
  · isplitr; · iexact Hc
    isplitl [HO]; · iexact HO
    isplitl [Hw]; · iexact Hw
    isplitl [Ho]; · iexact Ho
    isplitl [HL2]; · iexact HL2
    isplitl [HS2]; · iexact HS2
    iexact HC2
  iintro ⟨HO, Hw, Ho, HL2⟩
  iapply (turn_lane xs ws K c 3 (i := 60) rfl) $$ [HO Hw Ho HL3 HS3 HC3]
  · isplitr; · iexact Hc
    isplitl [HO]; · iexact HO
    isplitl [Hw]; · iexact Hw
    isplitl [Ho]; · iexact Ho
    isplitl [HL3]; · iexact HL3
    isplitl [HS3]; · iexact HS3
    iexact HC3
  iintro ⟨HO, Hw, Ho, HL3⟩
  iapply Hk
  isplitl [HO]; · iexact HO
  isplitl [Hx]; · iexact Hx
  isplitl [Hw]; · iexact Hw
  isplitl [Ho]; · iexact Ho
  isplitl [HL0 HL1 HL2 HL3]
  · isplitl [HL0]; · iexact HL0
    isplitl [HL1]; · iexact HL1
    isplitl [HL2]; · iexact HL2
    iexact HL3
  isplitl [HS]; · iexact HS
  iexact HC

set_option maxHeartbeats 800000 in
/-- The step that ends the second pass, on every lane. -/
theorem last_step (f : Fin 8 → FVec F S512x1024 .f32) {k : F .f32 → P F} :
    iprop(ctx xs ws K ∗ owesW c 110 ∗ owns (c : Thread nD τ) BB.x fullShare (xs c) ∗ owns (c : Thread nD τ) BB.w fullShare (ws c)
        ∗ owns (c : Thread nD τ) BB.o fullShare (glue f) ∗ allAt c 13)
      ⊢ iprop((owesW c 110 ∗ owns (c : Thread nD τ) BB.x fullShare (xs c) ∗ owns (c : Thread nD τ) BB.w fullShare (ws c)
          ∗ owns (c : Thread nD τ) BB.o fullShare (glue (afterHi xs ws c f)) ∗ quad (laneEnd c) -∗ WP c (k (lmax xs ws c)) Q)
        -∗ WP c (lastStep BB c (lmaxLo xs ws c) k) Q) := by
  unfold lastStep loadXs allAt quad
  iintro ⟨#Hc, HO, Hx, Hw, Ho, ⟨HL0, HL1, HL2, HL3⟩, -⟩ Hk
  iapply (loadX_own c BB _ _) $$ Hx
  iintro Hx
  iapply (loadX_own c BB _ _) $$ Hx
  iintro Hx
  iapply (last_lane xs ws K c 0) $$ [HO Hw Ho HL0]
  · isplitr; · iexact Hc
    isplitl [HO]; · iexact HO
    isplitl [Hw]; · iexact Hw
    isplitl [Ho]; · iexact Ho
    iexact HL0
  iintro ⟨HO, Hw, Ho, HL0⟩
  iapply (last_lane xs ws K c 1) $$ [HO Hw Ho HL1]
  · isplitr; · iexact Hc
    isplitl [HO]; · iexact HO
    isplitl [Hw]; · iexact Hw
    isplitl [Ho]; · iexact Ho
    iexact HL1
  iintro ⟨HO, Hw, Ho, HL1⟩
  iapply (last_lane xs ws K c 2) $$ [HO Hw Ho HL2]
  · isplitr; · iexact Hc
    isplitl [HO]; · iexact HO
    isplitl [Hw]; · iexact Hw
    isplitl [Ho]; · iexact Ho
    iexact HL2
  iintro ⟨HO, Hw, Ho, HL2⟩
  iapply (last_lane xs ws K c 3) $$ [HO Hw Ho HL3]
  · isplitr; · iexact Hc
    isplitl [HO]; · iexact HO
    isplitl [Hw]; · iexact Hw
    isplitl [Ho]; · iexact Ho
    iexact HL3
  iintro ⟨HO, Hw, Ho, HL3⟩
  iapply Hk
  isplitl [HO]; · iexact HO
  isplitl [Hx]; · iexact Hx
  isplitl [Hw]; · iexact Hw
  isplitl [Ho]; · iexact Ho
  isplitl [HL0]; · iexact HL0
  isplitl [HL1]; · iexact HL1
  isplitl [HL2]; · iexact HL2
  iexact HL3

/-! ## Things done in turn -/

/-- If each step takes `I j` to `I (j + 1)`, all of them take `I 0` to `I n`. -/
theorem each_run {n : ℕ} (f : Fin n → P F → P F) (I : ℕ → sProp 𝕄)
    (step : ∀ (j : Fin n) (k : P F), I j.val ⊢ iprop((I (j.val + 1) -∗ WP c k Q) -∗ WP c (f j k) Q)) (k : P F) :
    (i : ℕ) → (h : i ≤ n) → (I (n - i) ⊢ iprop((I n -∗ WP c k Q) -∗ WP c (each f k i h) Q))
  | 0, h => by
    iintro H Hk
    iapply Hk; iexact H
  | i + 1, h => by
    have hn : n - (i + 1) < n := by omega
    have hi : i ≤ n := by omega
    unfold each
    iintro H Hk
    iapply (step ⟨n - (i + 1), hn⟩ _) $$ H
    rw [show n - (i + 1) + 1 = n - i from by omega]
    iintro H
    iapply (each_run f I step k i hi) $$ H
    iexact Hk

/-! ## The quantisation -/

/-- The result when its first `j` blocks are quantised. -/
def quantised (c : Dev nD) (j : ℕ) : Fin 8 → FVec F S512x1024 .f32 := fun g => if g.val < j then outAll xs ws c g else resAll xs ws c g
theorem quantised_zero : quantised xs ws c 0 = resAll xs ws c := funext fun g => if_neg (Nat.not_lt_zero _)
theorem quantised_all : quantised xs ws c 8 = outAll xs ws c := funext fun g => if_pos g.isLt
theorem quantised_self (g : Fin 8) : quantised xs ws c g.val g = resAll xs ws c g := if_neg (Nat.lt_irrefl _)
theorem quantised_succ (g : Fin 8) : Function.update (quantised xs ws c g.val) g (outAll xs ws c g) = quantised xs ws c (g.val + 1) := by
  funext g'
  by_cases e : g' = g
  · subst e
    rw [Function.update_self]
    exact (if_pos (Nat.lt_succ_self _)).symm
  · rw [Function.update_of_ne e]
    have : g'.val ≠ g.val := fun h => e (Fin.ext h)
    unfold quantised
    by_cases h : g'.val < g.val
    · rw [if_pos h, if_pos (by omega)]
    · rw [if_neg h, if_neg (by omega)]

theorem quant_run {k : P F} :
    owns (c : Thread nD τ) BB.o fullShare (glue (resAll xs ws c)) ⊢ iprop((owns (c : Thread nD τ) BB.o fullShare (glue (outAll xs ws c)) -∗ WP c k Q)
      -∗ WP c (each (quantS BB (table (lmax xs ws))) k 8 (by decide)) Q) := by
  have := each_run c (Q := Q) (quantS BB (table (lmax xs ws))) (fun j => owns (c : Thread nD τ) BB.o fullShare (glue (quantised xs ws c j))) (fun g k => by
    unfold quantS
    iintro H Hk
    iapply (loadO_own c BB (g.val * 1024) _ g rfl) $$ H
    iintro H
    iapply (loadO_own c BB (g.val * 1024) _ g rfl) $$ H
    iintro H
    iapply (storeO_own c BB (g.val * 1024) _ g rfl) $$ H
    rw [quantised_self, show k0_pay184 (k0_pay182 (table (lmax xs ws))) (resAll xs ws c g) = outAll xs ws c g from rfl, quantised_succ]
    iexact Hk) k 8 (by decide)
  rwa [Nat.sub_self, quantised_zero, quantised_all] at this

/-! ## The exchange of the maxima -/

/-- The own row takes the own maximum. -/
theorem own_row_at {off : Fin 3 → ℕ} (hoff : off = ![c.val, 0, 0]) (h : ∀ a, off a + S1x8x128.size a ≤ S8x8x128.size a) {hl hx hm} {a : F .f32} {k : P F} :
    anyrow c BB c ⊢ iprop((owns (c : Thread nD τ) (rowM BB c) fullShare (constRow a) -∗ WP c k Q)
      -∗ WP c (.op (.load BB.am (Rect.unit (s := S8x8x128) off S1x8x128.size h).toLoadRect hl) fun _ =>
        .op (.store BB.am (Rect.unit (s := S8x8x128) off S1x8x128.size h) (shapeCast S1x8x128 (broadcast S1x8x128 a) shapeCasts_S1x8x128_S1x8x128) Finset.univ hx hm) fun _ => k) Q) := by
  subst hoff
  unfold anyrow
  iintro ⟨%X, H⟩ Hk
  iapply (load_slot c BB.am (r := rowRect c) (fun _ => rfl) squeezes_S1x8x128_S8x128 (X := X) (show S8x128.ShapeCasts S1x8x128 from by decide)) $$ H
  iintro H
  iapply (store_slot c BB.am (r := rowRect c) (fun _ => rfl) squeezes_S1x8x128_S8x128 (X := X) (k := fun _ => k) (show S1x8x128.ShapeCasts S8x128 from by decide)) $$ H
  iintro H
  iapply Hk
  iexact H

/-- What the departures from `j` on need. -/
def toSend (c : Dev nD) (j : ℕ) : sProp 𝕄 :=
  iprop(anyrow (rot c (j + 1)) BB c ∗ dutyTok ER (cell c (kSa (f7 j))) 0 false ∗ dutyTok ER (cell (rot c (j + 1)) (kRa (f7 j))) 0 false)
def toRecv (c : Dev nD) (j : ℕ) : sProp 𝕄 :=
  iprop(atPos ER (cell c (kRa (f7 j))) 0 ∅ 0 ∗ cred (tallyAt (cell c (kRa (f7 j))) (111 + j) Nr))
def received (c : Dev nD) (j : ℕ) : sProp 𝕄 :=
  iprop(owns (c : Thread nD τ) (rowM BB (unrot c (j + 1))) fullShare (constRow (lmax xs ws (unrot c (j + 1)))) ∗ atPos ER (cell c (kRa (f7 j))) 1 ∅ 0)
def toDone (c : Dev nD) (j : ℕ) : sProp 𝕄 :=
  iprop(atPos ER (cell c (kSa (f7 j))) 0 ∅ 0 ∗ cred (tallyAt (cell c (kSa (f7 j))) 0 Nr))
def returned (c : Dev nD) (j : ℕ) : sProp 𝕄 :=
  iprop(owns (c : Thread nD τ) (rowM BB c) fullShare.left (constRow (lmax xs ws c)) ∗ atPos ER (cell c (kSa (f7 j))) 1 ∅ 0)

/-- Sending the row to the seven others. -/
theorem send_rows {k : P F} :
    iprop(ctx xs ws K ∗ owesW c 110 ∗ owns (c : Thread nD τ) (rowM BB c) fullShare (constRow (lmax xs ws c)) ∗ bigSep (Finset.Ico 0 7) (toSend c))
      ⊢ iprop((owesW c 117 ∗ owns (c : Thread nD τ) (rowM BB c) (remq 7) (constRow (lmax xs ws c))
          ∗ (bigSep (Finset.Ico 0 7) fun j => cred (tallyAt (cell c (kSa (f7 j))) 0 Nr)) -∗ WP c k Q)
        -∗ WP c (each (sendA BB c) k 7 (by decide)) Q) := by
  have run := each_run c (Q := Q) (sendA BB c) (fun j => iprop(ctx xs ws K ∗ owesW c (110 + j) ∗ owns (c : Thread nD τ) (rowM BB c) (remq j) (constRow (lmax xs ws c))
      ∗ bigSep (Finset.Ico j 7) (toSend c) ∗ (bigSep (Finset.Ico 0 j) fun j => cred (tallyAt (cell c (kSa (f7 j))) 0 Nr)))) (fun j k => by
    rw [bigSep_Ico_succ_bot j.isLt, bigSep_Ico_succ_top (Nat.zero_le j.val)]
    unfold toSend
    rw [f7_val j]
    iintro ⟨#Hc, HO, Hr, ⟨⟨Ha, Ht1, Ht2⟩, Hs⟩, Hd⟩ Hk
    ihave H := (owns_halves (c : Thread nD τ) (rowM BB c) (remq j.val) (constRow (lmax xs ws c))).1 $$ Hr
    icases H with ⟨Hl, Hr⟩
    iapply (send_row xs ws K c j (i := 110 + j.val) rfl) $$ [HO Hl Ha Ht1 Ht2]
    · isplitr; · iexact Hc
      isplitl [HO]; · iexact HO
      isplitl [Hl]; · iexact Hl
      isplitl [Ha]; · iexact Ha
      isplitl [Ht1]; · iexact Ht1
      iexact Ht2
    iintro ⟨Hcr, HO⟩
    iapply Hk
    isplitr; · iexact Hc
    isplitl [HO]; · iexact HO
    isplitl [Hr]; · iexact Hr
    isplitl [Hs]; · iexact Hs
    isplitl [Hcr]; · iexact Hcr
    iexact Hd) k 7 (by decide)
  rw [Nat.sub_self, Finset.Ico_self, Finset.Ico_self, bigSep_empty] at run
  iintro ⟨#Hc, HO, Hr, Hs⟩ Hk
  iapply run $$ [HO Hr Hs]
  · isplitr; · iexact Hc
    isplitl [HO]; · iexact HO
    isplitl [Hr]; · iexact Hr
    isplitl [Hs]; · iexact Hs
    iempintro
  iintro ⟨-, HO, Hr, -, Hs⟩
  iapply Hk
  isplitl [HO]; · iexact HO
  isplitl [Hr]; · iexact Hr
  iexact Hs

/-- Receiving the rows of the seven others. -/
theorem recv_rows {k : P F} :
    iprop(ctx xs ws K ∗ owesW c 117 ∗ bigSep (Finset.Ico 0 7) (toRecv c))
      ⊢ iprop((owesW c 117 ∗ bigSep (Finset.Ico 0 7) (received xs ws c) -∗ WP c k Q) -∗ WP c (each (recvA BB c) k 7 (by decide)) Q) := by
  have run := each_run c (Q := Q) (recvA BB c) (fun j => iprop(ctx xs ws K ∗ owesW c 117 ∗ bigSep (Finset.Ico j 7) (toRecv c) ∗ bigSep (Finset.Ico 0 j) (received xs ws c))) (fun j k => by
    rw [bigSep_Ico_succ_bot j.isLt, bigSep_Ico_succ_top (Nat.zero_le j.val)]
    unfold toRecv received
    rw [f7_val j]
    iintro ⟨#Hc, HO, ⟨⟨Hat, Hcr⟩, Hs⟩, Hd⟩ Hk
    iapply (wait_one xs ws K c (kRa j) (waitA_spec c _ _ _) 0 rfl rfl (111 + j.val) 117 (by omega) (lt_pidx (by omega) (by omega))) $$ [HO Hcr Hat]
    · isplitr; · iexact Hc
      isplitl [Hcr]; · iexact Hcr
      isplitl [HO]; · iexact HO
      iexact Hat
    rw [show (payK xs ws c (kRa j) 0 false : sProp 𝕄) = owns (c : Thread nD τ) (rowM BB (unrot c (j.val + 1))) fullShare (constRow (lmax xs ws (unrot c (j.val + 1)))) from rfl]
    iintro ⟨HO, Hat, -, Hp⟩
    iapply Hk
    isplitr; · iexact Hc
    isplitl [HO]; · iexact HO
    isplitl [Hs]; · iexact Hs
    isplitl [Hp Hat]
    · isplitl [Hp]; · iexact Hp
      iexact Hat
    iexact Hd) k 7 (by decide)
  rw [Nat.sub_self, Finset.Ico_self, Finset.Ico_self, bigSep_empty, bigSep_empty] at run
  iintro ⟨#Hc, HO, Hs⟩ Hk
  iapply run $$ [HO Hs]
  · isplitr; · iexact Hc
    isplitl [HO]; · iexact HO
    isplitl [Hs]; · iexact Hs
    iempintro
  iintro ⟨-, HO, -, Hs⟩
  iapply Hk
  isplitl [HO]; · iexact HO
  iexact Hs

/-- The departures give the own row's shares back. -/
theorem done_rows {k : P F} :
    iprop(ctx xs ws K ∗ owesW c 117 ∗ owns (c : Thread nD τ) (rowM BB c) (remq 7) (constRow (lmax xs ws c)) ∗ bigSep (Finset.Ico 0 7) (toDone c))
      ⊢ iprop((owesW c 117 ∗ owns (c : Thread nD τ) (rowM BB c) fullShare (constRow (lmax xs ws c)) ∗ (bigSep (Finset.Ico 0 7) fun j => atPos ER (cell c (kSa (f7 j))) 1 ∅ 0) -∗ WP c k Q)
        -∗ WP c (each (doneA BB c) k 7 (by decide)) Q) := by
  have join : ∀ n, (iprop(owns (c : Thread nD τ) (rowM BB c) (remq n) (constRow (lmax xs ws c)) ∗ bigSep (Finset.Ico 0 n) fun j => owns (c : Thread nD τ) (rowM BB c) (shq j) (constRow (lmax xs ws c))) : sProp 𝕄)
      ⊢ owns (c : Thread nD τ) (rowM BB c) fullShare (constRow (lmax xs ws c)) := by
    intro n
    induction n with
    | zero => iintro ⟨H, -⟩; iexact H
    | succ n ih =>
      rw [bigSep_Ico_succ_top (Nat.zero_le n)]
      iintro ⟨H1, H2, H3⟩
      iapply ih
      isplitl [H1 H2]
      · iapply (owns_halves (c : Thread nD τ) (rowM BB c) (remq n) (constRow (lmax xs ws c))).2
        isplitl [H2]; · iexact H2
        iexact H1
      iexact H3
  have run := each_run c (Q := Q) (doneA BB c) (fun j => iprop(ctx xs ws K ∗ owesW c 117 ∗ bigSep (Finset.Ico j 7) (toDone c)
      ∗ (bigSep (Finset.Ico 0 j) fun j => owns (c : Thread nD τ) (rowM BB c) (shq j) (constRow (lmax xs ws c)))
      ∗ (bigSep (Finset.Ico 0 j) fun j => atPos ER (cell c (kSa (f7 j))) 1 ∅ 0))) (fun j k => by
    rw [bigSep_Ico_succ_bot j.isLt, bigSep_Ico_succ_top (Nat.zero_le j.val), bigSep_Ico_succ_top (Nat.zero_le j.val)]
    unfold toDone
    rw [f7_val j]
    iintro ⟨#Hc, HO, ⟨⟨Hat, Hcr⟩, Hs⟩, Hd, He⟩ Hk
    iapply (wait_one xs ws K c (kSa j) (waitA_spec c _ _ _) 0 rfl rfl 0 117 (by omega) (lt_pidx (by omega) (by omega))) $$ [HO Hcr Hat]
    · isplitr; · iexact Hc
      isplitl [Hcr]; · iexact Hcr
      isplitl [HO]; · iexact HO
      iexact Hat
    rw [show (payK xs ws c (kSa j) 0 false : sProp 𝕄) = owns (c : Thread nD τ) (rowM BB c) (shq j.val) (constRow (lmax xs ws c)) from rfl]
    iintro ⟨HO, Hat, -, Hp⟩
    iapply Hk
    isplitr; · iexact Hc
    isplitl [HO]; · iexact HO
    isplitl [Hs]; · iexact Hs
    isplitl [Hp Hd]
    · isplitl [Hp]; · iexact Hp
      iexact Hd
    isplitl [Hat]; · iexact Hat
    iexact He) k 7 (by decide)
  rw [Nat.sub_self, Finset.Ico_self, Finset.Ico_self, bigSep_empty, bigSep_empty, bigSep_empty] at run
  iintro ⟨#Hc, HO, Hr, Hs⟩ Hk
  iapply run $$ [HO Hs]
  · isplitr; · iexact Hc
    isplitl [HO]; · iexact HO
    isplitl [Hs]; · iexact Hs
    isplitl []; · iempintro
    iempintro
  iintro ⟨-, HO, -, Hs, Ha⟩
  iapply Hk
  isplitl [HO]; · iexact HO
  isplitl [Hr Hs]
  · iapply (join 7)
    isplitl [Hr]; · iexact Hr
    iexact Hs
  iexact Ha

theorem table_emb (j : S8x8x128.Idx) : (Rect.unit (s := S8x8x128) ![0, 0, 0] S8x8x128.size inb_S8x8x128_S8x8x128_0_0_0).emb j = j := by
  funext a
  match a with
  | 0 => exact Fin.ext (by show 0 + 1 * (j (0 : Fin 3)).val = (j (0 : Fin 3)).val; omega)
  | 1 => exact Fin.ext (by show 0 + 1 * (j (1 : Fin 3)).val = (j (1 : Fin 3)).val; omega)
  | 2 => exact Fin.ext (by show 0 + 1 * (j (2 : Fin 3)).val = (j (2 : Fin 3)).val; omega)

theorem table_load {X : Vec F S8x8x128 .f32} {hl} {k : Vec F S8x8x128 .f32 → P F} :
    owns (c : Thread nD τ) BB.am fullShare X ⊢ iprop((owns (c : Thread nD τ) BB.am fullShare X -∗ WP c (k X) Q)
      -∗ WP c (.op (.load BB.am (Rect.unit (s := S8x8x128) ![0, 0, 0] S8x8x128.size inb_S8x8x128_S8x8x128_0_0_0).toLoadRect hl) k) Q) := by
  have := load_own (F := F) (Q := Q) c BB.am (q := fullShare) (X := X) (r := Rect.unit (s := S8x8x128) ![0, 0, 0] S8x8x128.size inb_S8x8x128_S8x8x128_0_0_0) (hl := hl) (k := k)
  rwa [show (fun j => X ((Rect.unit (s := S8x8x128) ![0, 0, 0] S8x8x128.size inb_S8x8x128_S8x8x128_0_0_0).emb j)) = X from funext fun j => congrArg X (table_emb j)] at this

theorem received_split : bigSep (Finset.Ico 0 7) (received xs ws c)
    ⊢ iprop((bigSep (Finset.Ico 0 7) fun j => owns (c : Thread nD τ) (rowM BB (unrot c (j + 1))) fullShare (constRow (lmax xs ws (unrot c (j + 1)))))
      ∗ (bigSep (Finset.Ico 0 7) fun j => atPos ER (cell c (kRa (f7 j))) 1 ∅ 0)) :=
  Entails.of_eq (bigSep_sep' _ _ _)

/-- The exchange: after it the device holds the table of all maxima. -/
theorem exchange_run {k : Vec F S8x8x128 .f32 → P F} :
    iprop(ctx xs ws K ∗ owesW c 110 ∗ anyrow c BB c ∗ bigSep (Finset.Ico 0 7) (toSend c) ∗ bigSep (Finset.Ico 0 7) (toRecv c)
        ∗ (bigSep (Finset.Ico 0 7) fun j => atPos ER (cell c (kSa (f7 j))) 0 ∅ 0))
      ⊢ iprop((owesW c 117 ∗ owns (c : Thread nD τ) BB.am fullShare (table (lmax xs ws)) ∗ (bigSep (Finset.Ico 0 7) fun j => atPos ER (cell c (kSa (f7 j))) 1 ∅ 0)
          ∗ (bigSep (Finset.Ico 0 7) fun j => atPos ER (cell c (kRa (f7 j))) 1 ∅ 0) -∗ WP c (k (table (lmax xs ws))) Q)
        -∗ WP c (exchange BB c (lmax xs ws c) k) Q) := by
  have rows := rows_join (F := F) c BB (lmax xs ws)
  rw [rows_eq c] at rows
  unfold exchange
  iintro ⟨#Hc, HO, Hr, Hs, Hv, Ha⟩ Hk
  iapply (own_row_at c (k0_off5_eq c)) $$ Hr
  iintro Hr
  iapply (send_rows xs ws K c) $$ [HO Hr Hs]
  · isplitr; · iexact Hc
    isplitl [HO]; · iexact HO
    isplitl [Hr]; · iexact Hr
    iexact Hs
  iintro ⟨HO, Hr, Hcr⟩
  iapply (recv_rows xs ws K c) $$ [HO Hv]
  · isplitr; · iexact Hc
    isplitl [HO]; · iexact HO
    iexact Hv
  iintro ⟨HO, Hv⟩
  iapply (done_rows xs ws K c) $$ [HO Hr Ha Hcr]
  · isplitr; · iexact Hc
    isplitl [HO]; · iexact HO
    isplitl [Hr]; · iexact Hr
    unfold toDone
    rw [bigSep_sep']
    isplitl [Ha]; · iexact Ha
    iexact Hcr
  iintro ⟨HO, Hr, Ha⟩
  ihave H := (received_split xs ws c) $$ Hv
  icases H with ⟨Hv, Hb⟩
  iapply (table_load c) $$ [Hr Hv]
  · iapply rows
    isplitl [Hr]; · iexact Hr
    iexact Hv
  iintro Ht
  iapply Hk
  isplitl [HO]; · iexact HO
  isplitl [Ht]; · iexact Ht
  isplitl [Ha]; · iexact Ha
  iexact Hb

/-! ## The beginning -/

set_option maxHeartbeats 800000 in
/-- The barrier and the first transfers. -/
theorem begin_all {k : P F} :
    iprop(ctx xs ws K ∗ owesW c 0 ∗ owns (c : Thread nD τ) BB.x fullShare (xs c) ∗ owns (c : Thread nD τ) BB.w fullShare (ws c)
        ∗ (quad fun ℓ => iprop(anyslot c (LL ℓ) 0 ∗ anyslot c (LL ℓ) 1 ∗ anytmp c (LL ℓ)))
        ∗ (bigSep (Finset.Ico 0 7) fun j => anyrow c BB (unrot c (j + 1)))
        ∗ (dutyTok ER (cell (devL c) kBar) 0 true ∗ dutyTok ER (cell (devR c) kBar) 0 false ∗ cred (tallyAt (cell c kBar) 1 2))
        ∗ (atPos ER (cell c kBar) 0 ∅ 0
          ∗ (quad fun ℓ => iprop(atPos ER (cell c (kSs ℓ 0)) 0 ∅ 0 ∗ atPos ER (cell c (kSs ℓ 1)) 0 ∅ 0))
          ∗ (quad fun ℓ => iprop(atPos ER (cell c (kRs ℓ 0)) 0 ∅ 0 ∗ atPos ER (cell c (kRs ℓ 1)) 0 ∅ 0))
          ∗ (quad fun ℓ => atPos ER (cell c (kCr ℓ)) 0 ∅ 0))
        ∗ quad (supS c 0))
      ⊢ iprop((owesW c 6 ∗ owns (c : Thread nD τ) BB.x fullShare (xs c) ∗ owns (c : Thread nD τ) BB.w fullShare (ws c)
          ∗ atPos ER (cell c kBar) 1 ∅ 0 ∗ (quad fun ℓ => laneAt c ℓ 0) -∗ WP c k Q)
        -∗ WP c (begins BB c k) Q) := by
  have hwait := wait_cell xs ws K (Q := Q) c kBar (w := .semWait barS 2) (fun K' => wpE_semWait_eq 𝒱₀ (c : Thread nD τ) none Set.univ K') 0 (by rfl) 1 2 (by omega) (lt_pidx (by omega) (by omega))
    (kk := loadXi BB c fun y₁ y₂ =>
      initS BB (BB.lane 0) (BB.lane 0).base (base_lo _) 0 (pick (BB.lane 0) y₁ y₂) <| sendS (BB.lane 0) c 0 1 <|
      initS BB (BB.lane 1) (BB.lane 1).base (base_lo _) 0 (pick (BB.lane 1) y₁ y₂) <| sendS (BB.lane 1) c 0 1 <|
      initS BB (BB.lane 2) (BB.lane 2).base (base_lo _) 0 (pick (BB.lane 2) y₁ y₂) <| sendS (BB.lane 2) c 0 1 <|
      initS BB (BB.lane 3) (BB.lane 3).base (base_lo _) 0 (pick (BB.lane 3) y₁ y₂) <| sendS (BB.lane 3) c 0 1 k)
  rw [show dutiesK kBar 0 = Finset.univ from rfl, bigSep_univ_eq_bigSepL [true, false] (by decide) (by decide),
    show (bigSepL [true, false] fun d => payK xs ws c kBar 0 d) = (iprop(payK xs ws c kBar 0 true ∗ payK xs ws c kBar 0 false) : sProp 𝕄) from rfl] at hwait
  unfold begins
  unfold quad
  iintro ⟨#Hc, HO, Hx, Hw, ⟨⟨HA0, HB0, HT0⟩, ⟨HA1, HB1, HT1⟩, ⟨HA2, HB2, HT2⟩, ⟨HA3, HB3, HT3⟩⟩, Hrows, ⟨Ht1, Ht2, Hcr⟩,
    ⟨Hat, ⟨⟨Hs00, Hs01⟩, ⟨Hs10, Hs11⟩, ⟨Hs20, Hs21⟩, ⟨Hs30, Hs31⟩⟩, ⟨⟨Hr00, Hr01⟩, ⟨Hr10, Hr11⟩, ⟨Hr20, Hr21⟩, ⟨Hr30, Hr31⟩⟩, ⟨Hc0, Hc1, Hc2, Hc3⟩⟩, ⟨HS0, HS1, HS2, HS3⟩⟩ Hk
  iapply (signal_pay xs ws K c (pBar true) (i := 0) rfl barS rfl rfl (e := devL c) rfl) $$ [HO Ht1 HB0 HB2 Hrows]
  · isplitr; · iexact Hc
    isplitl [HO]; · iexact HO
    isplitl [Ht1]; · iexact Ht1
    isplitl [HB0 HB2 Hrows]
    · rw [show (payK xs ws (devL c) (pkey (pBar true)) (pround (pBar true)) (pduty (pBar true)) : sProp 𝕄) = iprop(anyslot (devR (devL c)) (LL 0) 1 ∗ anyslot (devR (devL c)) (LL 2) 1 ∗ hold (devL c) 1) from rfl, devR_devL]
      isplitl [HB0]; · iexact HB0
      isplitl [HB2]; · iexact HB2
      unfold hold
      rw [rot_devL c 0, rot_zero, shift_eq]
      iexact Hrows
    iapply (ctx_reached xs ws K); iexact Hc
  iintro HO
  iapply (signal_pay xs ws K c (pBar false) (i := 1) rfl barS rfl rfl (e := devR c) rfl) $$ [HO Ht2 HB1 HB3]
  · isplitr; · iexact Hc
    isplitl [HO]; · iexact HO
    isplitl [Ht2]; · iexact Ht2
    isplitl [HB1 HB3]
    · rw [show (payK xs ws (devR c) (pkey (pBar false)) (pround (pBar false)) (pduty (pBar false)) : sProp 𝕄) = iprop(anyslot (devL (devR c)) (LL 1) 1 ∗ anyslot (devL (devR c)) (LL 3) 1) from rfl, devL_devR]
      isplitl [HB1]; · iexact HB1
      iexact HB3
    iapply (ctx_reached xs ws K); iexact Hc
  iintro HO
  iapply hwait $$ [HO Hcr Hat]
  · isplitr; · iexact Hc
    isplitl [Hcr]; · iexact Hcr
    isplitl [HO]; · iexact HO
    iexact Hat
  rw [show (payK xs ws c kBar 0 true : sProp 𝕄) = iprop(anyslot (devR c) (LL 0) 1 ∗ anyslot (devR c) (LL 2) 1 ∗ hold c 1) from rfl,
    show (payK xs ws c kBar 0 false : sProp 𝕄) = iprop(anyslot (devL c) (LL 1) 1 ∗ anyslot (devL c) (LL 3) 1) from rfl]
  iintro ⟨HO, Hat, -, ⟨HB0, HB2, Hrows⟩, ⟨HB1, HB3⟩⟩
  unfold loadXi
  iapply (loadX_own c BB _ _) $$ Hx
  iintro Hx
  iapply (loadX_own c BB _ _) $$ Hx
  iintro Hx
  iapply (begin_lane xs ws K c 0 (i := 2) rfl) $$ [HO Hw HA0 HB0 HT0 Hs00 Hs01 Hr00 Hr01 Hc0 HS0 Hrows]
  · isplitr; · iexact Hc
    isplitl [HO]; · iexact HO
    isplitl [Hw]; · iexact Hw
    unfold laneBegin
    isplitr [HS0]
    · isplitl [HA0]; · iexact HA0
      isplitl [HB0]; · rw [dst_lane0]; iexact HB0
      isplitl [Hs00]; · iexact Hs00
      isplitl [Hs01]; · iexact Hs01
      isplitl [Hr01]; · iexact Hr01
      isplitl [Hr00]; · iexact Hr00
      isplitl [Hc0]; · iexact Hc0
      isplitl [HT0]; · iexact HT0
      unfold stash
      rw [if_pos rfl]
      isplitr
      · unfold kept
        rw [show min 1 8 = 1 from rfl, Finset.Ico_self, bigSep_empty]
        iempintro
      iexact Hrows
    iexact HS0
  iintro ⟨HO, Hw, HL0⟩
  iapply (begin_lane xs ws K c 1 (i := 3) rfl) $$ [HO Hw HA1 HB1 HT1 Hs10 Hs11 Hr10 Hr11 Hc1 HS1]
  · isplitr; · iexact Hc
    isplitl [HO]; · iexact HO
    isplitl [Hw]; · iexact Hw
    unfold laneBegin
    isplitr [HS1]
    · isplitl [HA1]; · iexact HA1
      isplitl [HB1]; · rw [dst_lane1]; iexact HB1
      isplitl [Hs10]; · iexact Hs10
      isplitl [Hs11]; · iexact Hs11
      isplitl [Hr11]; · iexact Hr11
      isplitl [Hr10]; · iexact Hr10
      isplitl [Hc1]; · iexact Hc1
      isplitl [HT1]; · iexact HT1
      unfold stash
      rw [if_neg (by decide)]
      iempintro
    iexact HS1
  iintro ⟨HO, Hw, HL1⟩
  iapply (begin_lane xs ws K c 2 (i := 4) rfl) $$ [HO Hw HA2 HB2 HT2 Hs20 Hs21 Hr20 Hr21 Hc2 HS2]
  · isplitr; · iexact Hc
    isplitl [HO]; · iexact HO
    isplitl [Hw]; · iexact Hw
    unfold laneBegin
    isplitr [HS2]
    · isplitl [HA2]; · iexact HA2
      isplitl [HB2]; · rw [dst_lane2]; iexact HB2
      isplitl [Hs20]; · iexact Hs20
      isplitl [Hs21]; · iexact Hs21
      isplitl [Hr21]; · iexact Hr21
      isplitl [Hr20]; · iexact Hr20
      isplitl [Hc2]; · iexact Hc2
      isplitl [HT2]; · iexact HT2
      unfold stash
      rw [if_neg (by decide)]
      iempintro
    iexact HS2
  iintro ⟨HO, Hw, HL2⟩
  iapply (begin_lane xs ws K c 3 (i := 5) rfl) $$ [HO Hw HA3 HB3 HT3 Hs30 Hs31 Hr30 Hr31 Hc3 HS3]
  · isplitr; · iexact Hc
    isplitl [HO]; · iexact HO
    isplitl [Hw]; · iexact Hw
    unfold laneBegin
    isplitr [HS3]
    · isplitl [HA3]; · iexact HA3
      isplitl [HB3]; · rw [dst_lane3]; iexact HB3
      isplitl [Hs30]; · iexact Hs30
      isplitl [Hs31]; · iexact Hs31
      isplitl [Hr31]; · iexact Hr31
      isplitl [Hr30]; · iexact Hr30
      isplitl [Hc3]; · iexact Hc3
      isplitl [HT3]; · iexact HT3
      unfold stash
      rw [if_neg (by decide)]
      iempintro
    iexact HS3
  iintro ⟨HO, Hw, HL3⟩
  iapply Hk
  isplitl [HO]; · iexact HO
  isplitl [Hx]; · iexact Hx
  isplitl [Hw]; · iexact Hw
  isplitl [Hat]; · iexact Hat
  isplitl [HL0]; · iexact HL0
  isplitl [HL1]; · iexact HL1
  isplitl [HL2]; · iexact HL2
  iexact HL3

/-! ## The end -/

theorem slot_slice (L : Lane) (p : Fin 2) (X : FVec F S512x1024 .bf16) :
    (owns (c : Thread nD τ) (L.slot p) fullShare X : sProp 𝕄) = owns (c : Thread nD τ) (L.cm.slice (slotRect p) (fun _ => rfl)) fullShare (unsq X) := by
  have hX : X = fun j => unsq X (Shape.reshapeEquiv squeezes_S1x512x1024_S512x1024.numel_eq j) := funext fun j => congrArg X (by
    show j = Shape.reshapeEquiv _ (Shape.reshapeEquiv _ j)
    rw [Shape.reshapeEquiv_reshapeEquiv, Shape.reshapeEquiv_self])
  exact (congrArg _ hX).trans (owns_squeeze c (L.cm.slice (slotRect p) (fun _ => rfl)) squeezes_S1x512x1024_S512x1024 fullShare (unsq X))

/-- A lane's buffer from its two slots. -/
def twoSlots (f : Fin 2 → Vec F S1x512x1024 .bf16) : Vec F S2x512x1024 .bf16 := fun i =>
  f (i (0 : Fin 3)) fun a => match a with
    | 0 => (⟨0, by decide⟩ : Fin 1)
    | 1 => i (1 : Fin 3)
    | 2 => i (2 : Fin 3)
theorem twoSlots_emb (f : Fin 2 → Vec F S1x512x1024 .bf16) (p : Fin 2) (j : S1x512x1024.Idx) : twoSlots f ((slotRect p).emb j) = f p j := by
  have h0 : (j (0 : Fin 3)).val < 1 := (j (0 : Fin 3)).isLt
  have e0 : (((slotRect p).emb j) (0 : Fin 3)) = p := Fin.ext (by show p.val + 1 * (j (0 : Fin 3)).val = p.val; omega)
  unfold twoSlots
  rw [e0]
  congr 1
  funext a
  match a with
  | 0 => exact Fin.ext (by show 0 = (j (0 : Fin 3)).val; omega)
  | 1 => exact Fin.ext (by show 0 + 1 * (j (1 : Fin 3)).val = (j (1 : Fin 3)).val; omega)
  | 2 => exact Fin.ext (by show 0 + 1 * (j (2 : Fin 3)).val = (j (2 : Fin 3)).val; omega)

theorem slots_join (L : Lane) : (iprop(anyslot c L 0 ∗ anyslot c L 1) : sProp 𝕄) ⊢ iprop(∃ X, owns (c : Thread nD τ) L.cm fullShare X) := by
  unfold anyslot
  iintro ⟨⟨%X0, H0⟩, ⟨%X1, H1⟩⟩
  iexists (twoSlots fun p => if p = 0 then unsq X0 else unsq X1)
  have join : (bigSep Finset.univ fun p => owns (c : Thread nD τ) (L.cm.slice (slotRect p) (fun _ => rfl)) fullShare fun j => twoSlots (fun p => if p = 0 then unsq X0 else unsq X1) ((slotRect p).emb j) : sProp 𝕄) ⊢ _ :=
    owns_of_rects (c : Thread nD τ) L.cm fullShare slotRect (fun _ _ => rfl) slots_disjoint slots_cover (twoSlots fun p => if p = 0 then unsq X0 else unsq X1)
  rw [bigSep_fin_two, show (fun j => twoSlots (fun p => if p = 0 then unsq X0 else unsq X1) ((slotRect 0).emb j)) = unsq X0 from funext fun j => twoSlots_emb _ 0 j,
    show (fun j => twoSlots (fun p => if p = 0 then unsq X0 else unsq X1) ((slotRect 1).emb j)) = unsq X1 from funext fun j => twoSlots_emb _ 1 j, ← slot_slice, ← slot_slice] at join
  iapply (show (iprop(owns (c : Thread nD τ) (L.slot 0) fullShare X0 ∗ owns (c : Thread nD τ) (L.slot 1) fullShare X1) : sProp 𝕄) ⊢ _ from join)
  isplitl [H0]; · iexact H0
  iexact H1

/-- All the cells of a device closed. -/
theorem close_cells : iprop(ctx xs ws K ∗ bigSep Finset.univ fun k : CK => atPos ER (cell c k) (roundsK k) ∅ 0)
    ⊢ (|={Set.univ}=> bigSep Finset.univ fun k : CK => semVal (cell c k) 0 : sProp 𝕄) :=
  ((sep_mono_left (BI.bigSep_of_persistent (Finset.univ : Finset CK) (ctx xs ws K))).trans (by
    rw [← bigSep_sep']; exact bigSep_mono fun k _ => close_cell xs ws K c k)).trans (bigSep_fupd _ _)

/-! ## The whole body -/

/-- The buffers of the lanes, at some contents. -/
def lanesAny (c : Dev nD) : sProp 𝕄 := quad fun ℓ => iprop(anyslot c (LL ℓ) 0 ∗ anyslot c (LL ℓ) 1 ∗ anytmp c (LL ℓ))

/-- What a device's run of the body starts from, beside its operands. -/
def bodyStart (c : Dev nD) : sProp 𝕄 :=
  iprop((∃ X, owns (c : Thread nD τ) BB.o fullShare X) ∗ (∃ X, owns (c : Thread nD τ) BB.am fullShare X) ∗ lanesAny c
    ∗ (bigSep Finset.univ fun k : CK => atPos ER (cell c k) 0 ∅ 0)
    ∗ (dutyTok ER (cell (devL c) kBar) 0 true ∗ dutyTok ER (cell (devR c) kBar) 0 false ∗ cred (tallyAt (cell c kBar) 1 2))
    ∗ supFrom c 0 0
    ∗ (bigSep (Finset.Ico 0 7) fun j => iprop(dutyTok ER (cell c (kSa (f7 j))) 0 false ∗ dutyTok ER (cell (rot c (j + 1)) (kRa (f7 j))) 0 false))
    ∗ (bigSep (Finset.Ico 0 7) fun j => cred (tallyAt (cell c (kRa (f7 j))) (111 + j) Nr)))

/-- What it ends with. -/
def bodyEnd (c : Dev nD) : sProp 𝕄 :=
  iprop(owns (c : Thread nD τ) BB.o fullShare (glue (outAll xs ws c)) ∗ (∃ X, owns (c : Thread nD τ) BB.am fullShare X) ∗ lanesAny c
    ∗ (bigSep Finset.univ fun k : CK => semVal (cell c k) 0))

theorem kept_all : (kept c 14 : sProp 𝕄) = bigSep (Finset.Ico 0 7) fun j => anyrow (rot c (j + 1)) BB c := by
  unfold kept
  exact shift_eq _

theorem toSend_join : (iprop((bigSep (Finset.Ico 0 7) fun j => anyrow (rot c (j + 1)) BB c)
      ∗ bigSep (Finset.Ico 0 7) fun j => iprop(dutyTok ER (cell c (kSa (f7 j))) 0 false ∗ dutyTok ER (cell (rot c (j + 1)) (kRa (f7 j))) 0 false)) : sProp 𝕄)
    ⊢ bigSep (Finset.Ico 0 7) (toSend c) :=
  Entails.of_eq (bigSep_sep' _ _ _).symm
theorem toRecv_join : (iprop((bigSep (Finset.Ico 0 7) fun j => atPos ER (cell c (kRa (f7 j))) 0 ∅ 0)
      ∗ bigSep (Finset.Ico 0 7) fun j => cred (tallyAt (cell c (kRa (f7 j))) (111 + j) Nr)) : sProp 𝕄)
    ⊢ bigSep (Finset.Ico 0 7) (toRecv c) :=
  Entails.of_eq (bigSep_sep' _ _ _).symm

theorem deviceId_at (k : Dev nD → P F) : WP c (.op .deviceId k) Q = WP c (k c) Q := wp_deviceId 𝒱₀ (c : Thread nD τ) none Set.univ
theorem ret_at : WP c (.ret ⟨⟩) Q = iprop(|={Set.univ}=> Q ⟨⟩) := wp_ret _ _ _ _ _

set_option maxHeartbeats 1600000 in
/-- The body on device `c`: from its operands at `xs c`, `ws c` to its result at `outAll xs ws c`. -/
theorem sound_body :
    iprop(ctx xs ws K ∗ owesW c 0 ∗ owns (c : Thread nD τ) BB.x fullShare (xs c) ∗ owns (c : Thread nD τ) BB.w fullShare (ws c) ∗ bodyStart c)
      ⊢ iprop((owesW c 117 ∗ owns (c : Thread nD τ) BB.x fullShare (xs c) ∗ owns (c : Thread nD τ) BB.w fullShare (ws c) ∗ bodyEnd xs ws c -∗ Q ⟨⟩)
        -∗ WP c (body BB) Q) := by
  have rows (X) := rows_split (F := F) c BB X
  have cells0 := cells_eq (F := F) fun k => atPos ER (cell c k) 0 ∅ 0
  have cells1 := cells_eq (F := F) fun k => atPos ER (cell c k) (roundsK k) ∅ 0
  simp only [rows_eq c] at rows
  unfold body
  rw [deviceId_at]
  unfold bodyStart bodyEnd lanesAny
  rw [supFrom_peel c 0 0 (by omega) (by omega), cells0]
  iintro ⟨#Hc, HO, Hx, Hw, ⟨%Xo, Ho⟩, ⟨%Xa, Ham⟩, HL, ⟨HaB, HaS, HaR, HaC, HaD, HaE⟩, Htb, ⟨⟨HS0, HS⟩, ⟨HC0, HC⟩⟩, Htr, Hcr⟩ Hk
  obtain ⟨fo, rfl⟩ := exists_glue Xo
  ihave Hrows := (rows Xa) $$ Ham
  icases Hrows with ⟨Hown, Hrows⟩
  iapply (begin_all xs ws K c) $$ [HO Hx Hw HL Hrows Htb HaB HaS HaR HaC HS0]
  · isplitr; · iexact Hc
    isplitl [HO]; · iexact HO
    isplitl [Hx]; · iexact Hx
    isplitl [Hw]; · iexact Hw
    isplitl [HL]; · iexact HL
    isplitl [Hrows]; · iexact Hrows
    isplitl [Htb]; · iexact Htb
    isplitr [HS0]
    · isplitl [HaB]; · iexact HaB
      isplitl [HaS]; · iexact HaS
      isplitl [HaR]; · iexact HaR
      iexact HaC
    iexact HS0
  iintro ⟨HO, Hx, Hw, HaB, HL⟩
  iapply (mid_steps xs ws K c 0 0 _ (by decide) 6 0 _ (by decide)) $$ [HO Hx Hw HL HS HC HC0]
  · isplitr; · iexact Hc
    isplitl [HO]; · iexact HO
    isplitl [Hx]; · iexact Hx
    isplitl [Hw]; · iexact Hw
    unfold allAt
    isplitl [HL]; · iexact HL
    unfold supFrom
    rw [bigSep_Ico_succ_bot (show 0 < 13 by decide)]
    isplitl [HS]; · iexact HS
    isplitl [HC0]; · iexact HC0
    iexact HC
  iintro ⟨HO, Hx, Hw, HL⟩
  iapply (turn_step xs ws K c fo) $$ [HO Hx Hw Ho HL]
  · isplitr; · iexact Hc
    isplitl [HO]; · iexact HO
    isplitl [Hx]; · iexact Hx
    isplitl [Hw]; · iexact Hw
    isplitl [Ho]; · iexact Ho
    iexact HL
  iintro ⟨HO, Hx, Hw, Ho, HL⟩
  iapply (mid_steps xs ws K c 7 4096 _ (by decide) 6 0 _ (by decide)) $$ [HO Hx Hw HL]
  · isplitr; · iexact Hc
    isplitl [HO]; · iexact HO
    isplitl [Hx]; · iexact Hx
    isplitl [Hw]; · iexact Hw
    iexact HL
  iintro ⟨HO, Hx, Hw, HL⟩
  iapply (last_step xs ws K c) $$ [HO Hx Hw Ho HL]
  · isplitr; · iexact Hc
    isplitl [HO]; · iexact HO
    isplitl [Hx]; · iexact Hx
    isplitl [Hw]; · iexact Hw
    isplitl [Ho]; · iexact Ho
    iexact HL
  rw [after_eq]
  unfold quad laneEnd stash
  rw [if_pos rfl, if_neg (show (1 : Fin 4) ≠ 0 by decide), if_neg (show (2 : Fin 4) ≠ 0 by decide), if_neg (show (3 : Fin 4) ≠ 0 by decide), kept_all]
  iintro ⟨HO, Hx, Hw, Ho, ⟨HA0, HB0, Hs00, Hs01, Hr01, Hr00, Hc0, HT0, Hkept, -⟩, ⟨HA1, HB1, Hs10, Hs11, Hr11, Hr10, Hc1, HT1, -⟩,
    ⟨HA2, HB2, Hs20, Hs21, Hr21, Hr20, Hc2, HT2, -⟩, ⟨HA3, HB3, Hs30, Hs31, Hr31, Hr30, Hc3, HT3, -⟩⟩
  iapply (exchange_run xs ws K c) $$ [HO Hown Hkept Htr Hcr HaD HaE]
  · isplitr; · iexact Hc
    isplitl [HO]; · iexact HO
    isplitl [Hown]; · iexact Hown
    isplitl [Hkept Htr]
    · iapply (toSend_join c)
      isplitl [Hkept]; · iexact Hkept
      iexact Htr
    isplitl [Hcr HaE]
    · iapply (toRecv_join c)
      isplitl [HaE]; · iexact HaE
      iexact Hcr
    iexact HaD
  iintro ⟨HO, Ham, HaD, HaE⟩
  iapply (quant_run xs ws c) $$ Ho
  iintro Ho
  rw [ret_at]
  imod (close_cells xs ws K c) $$ [HaB HaD HaE Hs00 Hs01 Hr01 Hr00 Hc0 Hs10 Hs11 Hr11 Hr10 Hc1 Hs20 Hs21 Hr21 Hr20 Hc2 Hs30 Hs31 Hr31 Hr30 Hc3] with Hz
  · isplitr; · iexact Hc
    rw [cells1]
    unfold quad
    isplitl [HaB]; · iexact HaB
    isplitl [Hs00 Hs01 Hs10 Hs11 Hs20 Hs21 Hs30 Hs31]
    · isplitl [Hs00 Hs01]; · (isplitl [Hs00]; · iexact Hs00); iexact Hs01
      isplitl [Hs10 Hs11]; · (isplitl [Hs10]; · iexact Hs10); iexact Hs11
      isplitl [Hs20 Hs21]; · (isplitl [Hs20]; · iexact Hs20); iexact Hs21
      (isplitl [Hs30]; · iexact Hs30)
      iexact Hs31
    isplitl [Hr00 Hr01 Hr10 Hr11 Hr20 Hr21 Hr30 Hr31]
    · isplitl [Hr00 Hr01]; · (isplitl [Hr00]; · iexact Hr00); iexact Hr01
      isplitl [Hr10 Hr11]; · (isplitl [Hr10]; · iexact Hr10); iexact Hr11
      isplitl [Hr20 Hr21]; · (isplitl [Hr20]; · iexact Hr20); iexact Hr21
      (isplitl [Hr30]; · iexact Hr30)
      iexact Hr31
    isplitl [Hc0 Hc1 Hc2 Hc3]
    · isplitl [Hc0]; · iexact Hc0
      isplitl [Hc1]; · iexact Hc1
      isplitl [Hc2]; · iexact Hc2
      iexact Hc3
    isplitl [HaD]; · iexact HaD
    iexact HaE
  imodintro
  iapply Hk
  isplitl [HO]; · iexact HO
  isplitl [Hx]; · iexact Hx
  isplitl [Hw]; · iexact Hw
  isplitl [Ho]; · iexact Ho
  isplitl [Ham]; · iexists _; iexact Ham
  isplitr [Hz]
  · isplitl [HA0 HB0 HT0]
    · isplitl [HA0]; · iexact HA0
      isplitl [HB0]; · iexact HB0
      iexact HT0
    isplitl [HA1 HB1 HT1]
    · isplitl [HA1]; · iexact HA1
      isplitl [HB1]; · iexact HB1
      iexact HT1
    isplitl [HA2 HB2 HT2]
    · isplitl [HA2]; · iexact HA2
      isplitl [HB2]; · iexact HB2
      iexact HT2
    isplitl [HA3]; · iexact HA3
    isplitl [HB3]; · iexact HB3
    iexact HT3
  iexact Hz

end Cert.KernelIdeal.Ring
-- ==== Proof.Deal.lean ====
/- The rights and credits a device's run starts from, from those the launch makes for every cell. -/
module

public import proofs.«01_k».proof.Proof.Run
public import Idealize.ShloMosaic.Lib.Pipeline.Launch

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The rights as the launch makes them -/

/-- The departures a device's own cells count: of each transfer, and of its row to each peer. -/
abbrev Dep : Type := (Fin 14 × Fin 4) ⊕ Fin 7
/-- A departure's cell, -/
def dkey : Dep → CK
  | .inl (t, ℓ) => kSs ℓ (par t.val)
  | .inr j => kSa j
/-- and its round. -/
def dround : Dep → ℕ
  | .inl (t, _) => t.val / 2
  | .inr _ => 0

/-- The cell, round and duty of a payment, or of a departure. -/
def tokK : Pay ⊕ Dep → CK × ℕ × Bool
  | .inl q => (pkey q, pround q, pduty q)
  | .inr d => (dkey d, dround d, false)

set_option maxRecDepth 20000 in
set_option synthInstance.maxSize 2000 in
theorem tokK_injective : Function.Injective tokK := by
  have h : ∀ a b, tokK a = tokK b → a = b := by decide +kernel
  exact fun a b => h a b

/-- The right to a payment into, or a departure from, a device's cell. -/
def tokOf (x : Dev nD × (Pay ⊕ Dep)) : GSem nD τ sig × ℕ × Bool := (cell x.1 (tokK x.2).1, (tokK x.2).2)
theorem tokOf_injective : Function.Injective tokOf := by
  rintro ⟨c, a⟩ ⟨c', a'⟩ h
  have h0 : cell c (tokK a).1 = cell c' (tokK a').1 := congrArg Prod.fst h
  have h1 : c = c' := congrArg (fun g : GSem nD τ sig => g.1.1) h0
  have h2 : (tokK a).1 = (tokK a').1 := csem_injective (congrArg Prod.snd h0)
  have h3 : (tokK a).2 = (tokK a').2 := congrArg (fun x : GSem nD τ sig × ℕ × Bool => x.2) h
  have h4 : a = a' := tokK_injective (Prod.ext h2 h3)
  subst h1 h4; rfl

/-- Every device's cells, and the rights to all of their duties. -/
theorem cells_injective : Function.Injective (fun ck : Dev nD × CK => cell ck.1 ck.2) := by
  rintro ⟨c, k⟩ ⟨c', k'⟩ h
  have h1 : c = c' := congrArg (fun g : GSem nD τ sig => g.1.1) h
  have h2 : k = k' := csem_injective (congrArg Prod.snd h)
  subst h1 h2; rfl
def ringCells : Finset (GSem nD τ sig) := Finset.univ.map ⟨_, cells_injective⟩
def ringToks : Finset (GSem nD τ sig × ℕ × Bool) := Finset.univ.map ⟨tokOf, tokOf_injective⟩

variable (c : Dev nD)

/-- The rights to the departures from device `c`, -/
def depToks : sProp 𝕄 := bigSep Finset.univ fun d : Dep => dutyTok ER (cell c (dkey d)) (dround d) false
/-- those to the payments into its cells, -/
def toks : sProp 𝕄 := iprop((bigSep Finset.univ fun q : Pay => dutyTok ER (cell c (pkey q)) (pround q) (pduty q)) ∗ depToks c)
/-- and those to the payments it makes itself. -/
def payToks : sProp 𝕄 := iprop((bigSep Finset.univ fun q : Pay => dutyTok ER (cell (pdev q c) (pkey q)) (pround q) (pduty q)) ∗ depToks c)
/-- The credits for the payments into its cells. -/
def credits : sProp 𝕄 := bigSep Finset.univ fun q : Pay => cred (tallyAt (cell c (pkey q)) (pidx q) (amountK (pkey q)))

/-- The rights dealt to the devices that pay: each payment's devices are a rearrangement of all of them. -/
theorem toks_around : (bigSep Finset.univ fun c : Dev nD => (toks c : sProp 𝕄)) ⊢ bigSep Finset.univ fun c : Dev nD => payToks c := by
  unfold toks payToks
  rw [bigSep_sep', bigSep_sep', bigSep_univ_comm, bigSep_univ_comm (fun (c : Dev nD) (q : Pay) => (dutyTok ER (cell (pdev q c) (pkey q)) (pround q) (pduty q) : sProp 𝕄))]
  exact sep_mono_left (bigSep_mono fun q _ => Entails.of_eq
    (bigSep_univ_equiv ⟨pdev q, pinv q, pinv_pdev q, pdev_pinv q⟩ fun c : Dev nD => (dutyTok ER (cell c (pkey q)) (pround q) (pduty q) : sProp 𝕄)))

/-- The launch's credit, payment by payment. -/
theorem credits_intro : (Pipeline.launchCred (owedFrom 0) c : sProp 𝕄) ⊢ credits c := by
  have h : (owedFrom 0 : Dev nD → CellTallies nD τ sig ℕ) = fun d => ∑ q ∈ (Finset.univ : Finset Pay), dueOf q d := by
    funext d
    unfold owedFrom
    exact congrArg (fun s => Finset.sum s fun q => dueOf q d) (Finset.filter_true_of_mem fun q _ => Nat.zero_le _)
  rw [h, Pipeline.launchCred_sum]
  exact bigSep_mono fun q _ => Pipeline.launchCred_tallyAt (csem (pkey q)) (pdev q) (pinv q) (pdev_pinv q) (pinv_pdev q) (pidx q) (amountK (pkey q)) c

/-! ## The same, as the body takes them -/

/-- The `t`-th of `n + 1`. -/
def fN (n t : ℕ) : Fin (n + 1) := ⟨t % (n + 1), Nat.mod_lt t (Nat.succ_pos n)⟩
theorem fN_val {n t : ℕ} (h : t ∈ Finset.Ico 0 (n + 1)) : (fN n t).val = t := Nat.mod_eq_of_lt (Finset.mem_Ico.mp h).2
theorem fins_eq (n : ℕ) (f : Fin (n + 1) → sProp 𝕄) : bigSep Finset.univ f = bigSep (Finset.Ico 0 (n + 1)) fun j => f (fN n j) := by
  rw [show Finset.Ico 0 (n + 1) = Finset.univ.map (Fin.valEmbedding : Fin (n + 1) ↪ ℕ) from by
    ext j; simp only [Finset.mem_Ico, Finset.mem_map, Finset.mem_univ, true_and, Fin.valEmbedding_apply]
    exact ⟨fun h => ⟨⟨j, h.2⟩, rfl⟩, fun ⟨a, h⟩ => h ▸ ⟨Nat.zero_le _, a.isLt⟩⟩, bigSep_map]
  exact bigSep_congr fun j _ => congrArg f (Fin.ext (Nat.mod_eq_of_lt j.isLt).symm)

/-- The payments, kind by kind, -/
theorem pays_eq (f : Pay → sProp 𝕄) : bigSep Finset.univ f
    = iprop((f (pBar true) ∗ f (pBar false)) ∗ (bigSep (Finset.Ico 0 14) fun t => bigSep Finset.univ fun ℓ => f (pSend (fN 13 t) ℓ))
      ∗ (bigSep (Finset.Ico 0 13) fun n => bigSep Finset.univ fun ℓ => f (pCr (fN 12 n) ℓ)) ∗ (bigSep (Finset.Ico 0 7) fun j => f (pMax (f7 j)))) := by
  rw [bigSep_univ_sum, bigSep_univ_sum, bigSep_univ_sum, bigSep_univ_prod, bigSep_univ_prod, seven_eq, fins_eq 13, fins_eq 12,
    bigSep_univ_eq_bigSepL [true, false] (by decide) (by decide)]
  rfl
/-- and the departures. -/
theorem deps_eq (f : Dep → sProp 𝕄) : bigSep Finset.univ f
    = iprop((bigSep (Finset.Ico 0 14) fun t => bigSep Finset.univ fun ℓ => f (.inl (fN 13 t, ℓ))) ∗ (bigSep (Finset.Ico 0 7) fun j => f (.inr (f7 j)))) := by
  rw [bigSep_univ_sum, bigSep_univ_prod, seven_eq, fins_eq 13]
  rfl

/-- Two families of resources as one, -/
theorem pair_up {I : Type} (s : Finset I) (A B : I → sProp 𝕄) : iprop(bigSep s A ∗ bigSep s B) ⊢ bigSep s fun i => iprop(A i ∗ B i) :=
  Entails.of_eq (bigSep_sep' s A B).symm
/-- and three. -/
theorem three_up {I : Type} (s : Finset I) (A B C : I → sProp 𝕄) :
    iprop(bigSep s A ∗ bigSep s B ∗ bigSep s C) ⊢ bigSep s fun i => iprop(A i ∗ B i ∗ C i) :=
  (sep_mono_right (pair_up s B C)).trans (pair_up s A _)

theorem supS_of (t : Fin 14) (ℓ : Fin 4) :
    iprop(dutyTok ER (cell c (dkey (.inl (t, ℓ)))) (dround (.inl (t, ℓ))) false
      ∗ dutyTok ER (cell (pdev (pSend t ℓ) c) (pkey (pSend t ℓ))) (pround (pSend t ℓ)) (pduty (pSend t ℓ))
      ∗ cred (tallyAt (cell c (pkey (pSend t ℓ))) (pidx (pSend t ℓ)) (amountK (pkey (pSend t ℓ))))) = (supS c t.val ℓ : sProp 𝕄) := by
  rw [pidx_send]; rfl
theorem pidx_cr (n : Fin 13) (ℓ : Fin 4) : pidx (pCr n ℓ) = 7 + 8 * n.val + 2 * ℓ.val := by revert n ℓ; decide +kernel
theorem pidx_max (j : Fin 7) : pidx (pMax j) = 111 + j.val := by revert j; decide +kernel
theorem supC_of (n : Fin 13) (ℓ : Fin 4) :
    iprop(dutyTok ER (cell (pdev (pCr n ℓ) c) (pkey (pCr n ℓ))) (pround (pCr n ℓ)) (pduty (pCr n ℓ))
      ∗ cred (tallyAt (cell c (pkey (pCr n ℓ))) (pidx (pCr n ℓ)) (amountK (pkey (pCr n ℓ))))) = (supC c n.val ℓ : sProp 𝕄) := by
  rw [pidx_cr]; rfl

theorem row_toks (j : ℕ) (hj : j ∈ Finset.Ico 0 7) :
    iprop(dutyTok ER (cell c (dkey (.inr (f7 j)))) (dround (.inr (f7 j))) false
      ∗ dutyTok ER (cell (pdev (pMax (f7 j)) c) (pkey (pMax (f7 j)))) (pround (pMax (f7 j))) (pduty (pMax (f7 j))))
    ⊢ (iprop(dutyTok ER (cell c (kSa (f7 j))) 0 false ∗ dutyTok ER (cell (rot c (j + 1)) (kRa (f7 j))) 0 false) : sProp 𝕄) := by
  have h : pdev (pMax (f7 j)) c = rot c (j + 1) := by
    show rot c ((f7 j).val + 1) = _
    rw [show (f7 j).val = j from Nat.mod_eq_of_lt (Finset.mem_Ico.mp hj).2]
  rw [h]; exact Entails.refl _

/-- What a device starts with, as its run of the body takes it. -/
theorem supplies : iprop(payToks c ∗ credits c)
    ⊢ (iprop((dutyTok ER (cell (devL c) kBar) 0 true ∗ dutyTok ER (cell (devR c) kBar) 0 false ∗ cred (tallyAt (cell c kBar) 1 2))
      ∗ supFrom c 0 0
      ∗ (bigSep (Finset.Ico 0 7) fun j => iprop(dutyTok ER (cell c (kSa (f7 j))) 0 false ∗ dutyTok ER (cell (rot c (j + 1)) (kRa (f7 j))) 0 false))
      ∗ (bigSep (Finset.Ico 0 7) fun j => cred (tallyAt (cell c (kRa (f7 j))) (111 + j) Nr))) : sProp 𝕄) := by
  unfold payToks depToks credits supFrom
  rw [pays_eq, pays_eq, deps_eq]
  iintro ⟨⟨⟨⟨Tt, Tf⟩, TS, TC, TM⟩, ⟨DS, DM⟩⟩, ⟨⟨Ct, Cf⟩, CS, CC, CM⟩⟩
  isplitl [Tt Tf Ct Cf]
  · isplitl [Tt]; · iexact Tt
    isplitl [Tf]; · iexact Tf
    iapply (show iprop(cred (tallyAt (cell c (pkey (pBar true))) (pidx (pBar true)) (amountK (pkey (pBar true))))
        ∗ cred (tallyAt (cell c (pkey (pBar false))) (pidx (pBar false)) (amountK (pkey (pBar false))))) ⊢ (cred (tallyAt (cell c kBar) 1 2) : sProp 𝕄) from
      (cred_add _ _).2.trans (Entails.of_eq (congrArg cred (tallyAt_add (cell c kBar) 1 1 1))))
    isplitl [Ct]; · iexact Ct
    iexact Cf
  isplitl [TS TC DS CS CC]
  · isplitl [TS DS CS]
    · iapply ((three_up (F := F) _ _ _ _).trans (bigSep_mono fun t ht => (three_up (F := F) _ _ _ _).trans
        ((bigSep_mono fun ℓ _ => Entails.of_eq (supS_of c (fN 13 t) ℓ)).trans (Entails.of_eq ((quad_eq _).trans (by rw [fN_val ht]))))))
      isplitl [DS]; · iexact DS
      isplitl [TS]; · iexact TS
      iexact CS
    · iapply ((pair_up (F := F) _ _ _).trans (bigSep_mono fun t ht => (pair_up (F := F) _ _ _).trans
        ((bigSep_mono fun ℓ _ => Entails.of_eq (supC_of c (fN 12 t) ℓ)).trans (Entails.of_eq ((quad_eq _).trans (by rw [fN_val ht]))))))
      isplitl [TC]; · iexact TC
      iexact CC
  isplitl [TM DM]
  · iapply ((pair_up (F := F) _ _ _).trans (bigSep_mono fun j hj => row_toks c j hj))
    isplitl [DM]; · iexact DM
    iexact TM
  · iapply (show (bigSep (Finset.Ico 0 7) fun j => cred (tallyAt (cell c (pkey (pMax (f7 j)))) (pidx (pMax (f7 j))) (amountK (pkey (pMax (f7 j))))) : sProp 𝕄) ⊢ _ from
      bigSep_mono fun j hj => show _ ⊢ cred (tallyAt (cell c (kRa (f7 j))) (111 + j) Nr) from Entails.of_eq (by
        rw [pidx_max, show (f7 j).val = j from Nat.mod_eq_of_lt (Finset.mem_Ico.mp hj).2]; rfl))
    iexact CM

end Cert.KernelIdeal.Ring

end
-- ==== Proof.Body.lean ====
/- The printed body is the body written step by step. -/
module

public import proofs.«01_k».proof.Proof.Prog

@[expose] public section

noncomputable section

namespace Cert.KernelIdeal.Ring

open Idealize.ShloMosaic Idealize.SL.Sem Cert.KernelIdeal.Gen

variable {F : FTy → Type} [FloatOps F]

/-- The printed body is the body written step by step: by unfolding both. -/
theorem cc0_body_eq (arg0 : Memref sig .tc .vmem S4096x512 .f32) (harg0 : arg0.IsWhole) (arg1 : Memref sig .tc .vmem S512x8192 .f32) (harg1 : arg1.IsWhole) (arg2 : Memref sig .tc .vmem S512x8192 .f32) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S8x8x128 .f32) (harg11 : arg11.IsWhole) (arg12 : DmaSems sig S2) (arg13 : DmaSems sig S2) (arg14 : DmaSems sig S2) (arg15 : DmaSems sig S2) (arg16 : DmaSems sig S2) (arg17 : DmaSems sig S2) (arg18 : DmaSems sig S2) (arg19 : DmaSems sig S2) (arg20 : DmaSems sig S7) (arg21 : DmaSems sig S7) (arg22 : Sems sig S_) (arg23 : Sems sig S_) (arg24 : Sems sig S_) (arg25 : Sems sig S_) :
    cc0_body (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24 arg25
      = body ⟨arg0, arg1, arg2, arg11, arg20, arg21, four ⟨arg3, harg3, arg7, arg12, arg13, arg22.sem, 0, by decide, true⟩
          ⟨arg4, harg4, arg8, arg14, arg15, arg23.sem, 2048, by decide, false⟩
          ⟨arg5, harg5, arg9, arg16, arg17, arg24.sem, 1024, by decide, true⟩
          ⟨arg6, harg6, arg10, arg18, arg19, arg25.sem, 3072, by decide, false⟩⟩ := by
  chain_rfl

end Cert.KernelIdeal.Ring
-- ==== Proof.Launch.lean ====
/- The launch: what the devices start with, dealt out of what the machine holds, and the run of the whole program. -/
module

public import proofs.«01_k».proof.Proof.Deal
public import proofs.«01_k».proof.Proof.Body
public import proofs.«01_k».proof.Proof.Gen.KernelIdeal.Launch
public import proofs.«01_k».proof.Proof.Gen.KernelIdeal.Points
public import Idealize.ShloMosaic.Lib.Quiescent
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-- The state at launch. -/
abbrev s₁ : MemSt nD τ sig (Elt F) := ⟨m, fun _ => 0, ρ⟩

/-- The operands at launch, by device. -/
def xs (c : Dev nD) : Vec F S4096x512 .f32 := (win0_0.blk (0 : Fin 1)).view.read (Elt F) (m ((c : Thread nD τ).loc main_arg0))
def ws (c : Dev nD) : Vec F S512x8192 .f32 := (win0_1.blk (0 : Fin 1)).view.read (Elt F) (m ((c : Thread nD τ).loc main_arg1))
/-- The result, by device. -/
def outs (c : Dev nD) : Vec F S512x8192 .f32 := glue (outAll (xs m) (ws m) c)

variable (c : Dev nD)

/-! ## What the body starts from and ends with -/

/-- The invariants of all the cells, and that each is at least at its first round. -/
def records : sProp 𝕄 :=
  iprop((bigSep Finset.univ fun ck : Dev nD × CK => cellInv ER (ringRd (xs m) (ws m)) (K ck) (cell ck.1 ck.2))
    ∗ (bigSep Finset.univ fun ck : Dev nD × CK => reached ER (cell ck.1 ck.2) 0))
instance records_persistent : BI.Persistent (records m K) := by unfold records; infer_instance

/-- A device's positions at its cells' first rounds, and the rights to the payments it makes. -/
def linear : sProp 𝕄 := iprop((bigSep Finset.univ fun k : CK => atPos ER (cell c k) 0 ∅ 0) ∗ payToks c)
/-- What the launch's global step gives a device, -/
def G' : sProp 𝕄 := iprop(∃ K, records m K ∗ linear c)
/-- what it starts from, -/
def start : sProp 𝕄 := iprop(G' m c ∗ credits c ∗ levAts lev lv)
/-- and with its scratch. -/
def Φ₀ : sProp 𝕄 := iprop(start m c ∗ Pipeline.scopedRest cfg0.spec c)
/-- After the body: its scratch, and its cells closed at zero. -/
def Φ₁ : sProp 𝕄 := iprop(Pipeline.scopedRest cfg0.spec c ∗ bigSep Finset.univ fun k : CK => semVal (cell c k) 0)

/-- The pipeline's data: the operands stay, the result is the computed one; all of a device's payments are owed before the
    body and none after it. -/
def dats (_ : Fin 1) (c : Dev nD) : Dat τ (Elt F) ℕ ℕ UU ℕ cfg0 c where
  A w := (s₁ m ρ).mem ((cfg0.win w).arr.view.loc (c : Thread nD τ))
  after w _ := match w with
    | ⟨0, _⟩ => xs m c
    | ⟨1, _⟩ => ws m c
    | ⟨2, _⟩ => outs m c
  Φ t := match t with
    | ⟨0, _⟩ => Φ₀ m c
    | ⟨_ + 1, _⟩ => Φ₁ c
  q _ := fullShare
  owed t := match t with
    | ⟨0, _⟩ => owedFrom 0 c
    | ⟨_ + 1, _⟩ => 0

theorem owns_whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer at some contents is one owned at some contents, -/
theorem owns_of_pts (b : Ref sig .tc) : (iprop(∃ f : Buf (Elt F) (((c : Dev nD) : Thread nD τ).loc b), (((c : Thread nD τ).loc b) ↦{fullShare} f)) : sProp 𝕄)
    ⊢ iprop(∃ X, owns (c : Thread nD τ) (Memref.whole b) fullShare X) := by
  iintro ⟨%f, H⟩
  iexists f
  rw [owns_whole_eq]
  iexists f
  isplitr
  · ipureintro; rfl
  iexact H
/-- and back. -/
theorem pts_of_owns (b : Ref sig .tc) : (iprop(∃ X, owns (c : Thread nD τ) (Memref.whole b) fullShare X) : sProp 𝕄)
    ⊢ iprop(∃ f : Buf (Elt F) (((c : Dev nD) : Thread nD τ).loc b), (((c : Thread nD τ).loc b) ↦{fullShare} f)) := by
  iintro ⟨%X, H⟩
  ihave H' := (Entails.of_eq (owns_whole_eq c b X)) $$ H
  icases H' with ⟨%f, -, H⟩
  iexists f
  iexact H

/-- A lane's two buffers at some contents, -/
def laneBufs (ℓ : Fin 4) : sProp 𝕄 :=
  iprop((∃ X, owns (c : Thread nD τ) (LL ℓ).cm fullShare X) ∗ (∃ X, owns (c : Thread nD τ) (LL ℓ).tm fullShare X))
theorem laneBufs_open (ℓ : Fin 4) : laneBufs c ℓ ⊢ (iprop(anyslot c (LL ℓ) 0 ∗ anyslot c (LL ℓ) 1 ∗ anytmp c (LL ℓ)) : sProp 𝕄) := by
  unfold laneBufs anytmp
  iintro ⟨⟨%X, H⟩, HT⟩
  ihave H' := (slots_split c (LL ℓ) X) $$ H
  icases H' with ⟨H0, H1⟩
  isplitl [H0]; · iexact H0
  isplitl [H1]; · iexact H1
  iexact HT
theorem laneBufs_close (ℓ : Fin 4) : (iprop(anyslot c (LL ℓ) 0 ∗ anyslot c (LL ℓ) 1 ∗ anytmp c (LL ℓ)) : sProp 𝕄) ⊢ laneBufs c ℓ := by
  unfold laneBufs anytmp
  iintro ⟨H0, H1, HT⟩
  isplitl [H0 H1]
  · iapply (slots_join c (LL ℓ))
    isplitl [H0]; · iexact H0
    iexact H1
  iexact HT

/-- The scratch, as the body takes it, -/
theorem scratch_open : (Pipeline.scopedRest cfg0.spec c : sProp 𝕄) ⊢ iprop((∃ X, owns (c : Thread nD τ) BB.am fullShare X) ∗ lanesAny c) := by
  refine (Entails.of_eq (scopedRest0_eq c)).trans ?_
  unfold lanesAny quad
  iintro ⟨H0, H1, H2, H3, H4, H5, H6, H7, H8⟩
  isplitl [H8]; · iapply (owns_of_pts c cc0_scratch8); iexact H8
  isplitl [H0 H4]
  · iapply (laneBufs_open c 0); unfold laneBufs
    isplitl [H0]; · iapply (owns_of_pts c cc0_scratch0); iexact H0
    iapply (owns_of_pts c cc0_scratch4); iexact H4
  isplitl [H1 H5]
  · iapply (laneBufs_open c 1); unfold laneBufs
    isplitl [H1]; · iapply (owns_of_pts c cc0_scratch1); iexact H1
    iapply (owns_of_pts c cc0_scratch5); iexact H5
  isplitl [H2 H6]
  · iapply (laneBufs_open c 2); unfold laneBufs
    isplitl [H2]; · iapply (owns_of_pts c cc0_scratch2); iexact H2
    iapply (owns_of_pts c cc0_scratch6); iexact H6
  · iapply (laneBufs_open c 3); unfold laneBufs
    isplitl [H3]; · iapply (owns_of_pts c cc0_scratch3); iexact H3
    iapply (owns_of_pts c cc0_scratch7); iexact H7
/-- and back. -/
theorem scratch_close : (iprop((∃ X, owns (c : Thread nD τ) BB.am fullShare X) ∗ lanesAny c) : sProp 𝕄) ⊢ Pipeline.scopedRest cfg0.spec c := by
  refine BIBase.Entails.trans ?_ (Entails.of_eq (scopedRest0_eq c).symm)
  unfold lanesAny quad
  iintro ⟨H8, L0, L1, L2, L3⟩
  ihave L0' := (laneBufs_close c 0) $$ L0
  ihave L1' := (laneBufs_close c 1) $$ L1
  ihave L2' := (laneBufs_close c 2) $$ L2
  ihave L3' := (laneBufs_close c 3) $$ L3
  unfold laneBufs
  icases L0' with ⟨H0, H4⟩
  icases L1' with ⟨H1, H5⟩
  icases L2' with ⟨H2, H6⟩
  icases L3' with ⟨H3, H7⟩
  isplitl [H0]; · iapply (pts_of_owns c cc0_scratch0); iexact H0
  isplitl [H1]; · iapply (pts_of_owns c cc0_scratch1); iexact H1
  isplitl [H2]; · iapply (pts_of_owns c cc0_scratch2); iexact H2
  isplitl [H3]; · iapply (pts_of_owns c cc0_scratch3); iexact H3
  isplitl [H4]; · iapply (pts_of_owns c cc0_scratch4); iexact H4
  isplitl [H5]; · iapply (pts_of_owns c cc0_scratch5); iexact H5
  isplitl [H6]; · iapply (pts_of_owns c cc0_scratch6); iexact H6
  isplitl [H7]; · iapply (pts_of_owns c cc0_scratch7); iexact H7
  iapply (pts_of_owns c cc0_scratch8); iexact H8

/-! ## The body -/

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost : sProp 𝕄 :=
  iprop(Φ₁ c ∗ (dats m ρ 0 c).owesAt 0 t0_0.succ ∗ stg c cc0_stg0_0 (xs m c) ∗ stg c cc0_stg1_0 (ws m c) ∗ stg c cc0_stg2_0 (outs m c))

theorem owes_open : (dats m ρ 0 c).owesAt 0 t0_0.castSucc ⊢ (owesW c 0 : sProp 𝕄) := by
  unfold Dat.owesAt Pipeline.owesWithin owesW
  iintro ⟨%W, -, H⟩
  iexists W
  iexact H
theorem owes_close : (owesW c 117 : sProp 𝕄) ⊢ (dats m ρ 0 c).owesAt 0 t0_0.succ := by
  unfold Dat.owesAt Pipeline.owesWithin owesW
  rw [owedFrom_end]
  iintro ⟨%W, H⟩
  iexists W
  isplitr
  · ipureintro; exact fun _ _ => Or.inl trivial
  iexact H
theorem before_x (d) : (dats m ρ 0 c).before (0 : Fin 3) t0_0 d = xs m c := by
  unfold Dat.before; rw [if_pos (fetch0_0 t0_0)]; rfl
theorem before_w (d) : (dats m ρ 0 c).before (1 : Fin 3) t0_0 d = ws m c := by
  unfold Dat.before; rw [if_pos (fetch0_1 t0_0)]; rfl

theorem stg_x (X) : stg c cc0_stg0_0 X ⊢ (owns (c : Thread nD τ) BB.x fullShare X : sProp 𝕄) := Entails.of_eq (owns_whole_eq c cc0_stg0_0 X).symm
theorem stg_w (X) : stg c cc0_stg1_0 X ⊢ (owns (c : Thread nD τ) BB.w fullShare X : sProp 𝕄) := Entails.of_eq (owns_whole_eq c cc0_stg1_0 X).symm
theorem stg_o (X) : stg c cc0_stg2_0 X ⊢ (owns (c : Thread nD τ) BB.o fullShare X : sProp 𝕄) := Entails.of_eq (owns_whole_eq c cc0_stg2_0 X).symm
theorem x_stg (X) : (owns (c : Thread nD τ) BB.x fullShare X : sProp 𝕄) ⊢ stg c cc0_stg0_0 X := Entails.of_eq (owns_whole_eq c cc0_stg0_0 X)
theorem w_stg (X) : (owns (c : Thread nD τ) BB.w fullShare X : sProp 𝕄) ⊢ stg c cc0_stg1_0 X := Entails.of_eq (owns_whole_eq c cc0_stg1_0 X)
theorem o_stg (X) : (owns (c : Thread nD τ) BB.o fullShare X : sProp 𝕄) ⊢ stg c cc0_stg2_0 X := Entails.of_eq (owns_whole_eq c cc0_stg2_0 X)

theorem ctx_of : iprop(records m K ∗ levAts lev lv) ⊢ (ctx (xs m) (ws m) K : sProp 𝕄) := by
  unfold records ctx
  iintro ⟨⟨H1, H2⟩, H3⟩
  isplitl [H1]; · iexact H1
  isplitl [H2]; · iexact H2
  iexact H3

/-- The body's run, from what the pipeline gives it to what it takes back. -/
theorem body_run : bodyPre m ρ c ⊢ WP c (body BB) fun _ => bodyPost m ρ c := by
  unfold bodyPre Φ₀ start G' linear
  iintro ⟨⟨⟨⟨%K, #HR, Hat, Htok⟩, Hcr, Hlev⟩, Hscr⟩, HO, ⟨%d0, Hx⟩, ⟨%d1, Hw⟩, ⟨%d2, Ho⟩⟩
  rw [before_x, before_w]
  ihave Hscr' := (scratch_open c) $$ Hscr
  icases Hscr' with ⟨Ham, Hl⟩
  ihave Hsup := (supplies c) $$ [Htok Hcr]
  · isplitl [Htok]; · iexact Htok
    iexact Hcr
  icases Hsup with ⟨H1, H2, H3, H4⟩
  iapply (sound_body (xs m) (ws m) K c (Q := fun _ => bodyPost m ρ c)) $$ [Hat Hlev HO Hx Hw Ho Ham Hl H1 H2 H3 H4]
  · isplitl [Hlev]
    · iapply (ctx_of m K)
      isplitr; · iexact HR
      iexact Hlev
    isplitl [HO]; · iapply (owes_open m ρ c); iexact HO
    isplitl [Hx]; · iapply (stg_x c); iexact Hx
    isplitl [Hw]; · iapply (stg_w c); iexact Hw
    unfold bodyStart
    isplitl [Ho]; · iexists _; iapply (stg_o c); iexact Ho
    isplitl [Ham]; · iexact Ham
    isplitl [Hl]; · iexact Hl
    isplitl [Hat]; · iexact Hat
    isplitl [H1]; · iexact H1
    isplitl [H2]; · iexact H2
    isplitl [H3]; · iexact H3
    iexact H4
  · unfold bodyEnd bodyPost Φ₁
    iintro ⟨HO, Hx, Hw, Ho, Ham, Hl, Hz⟩
    isplitl [Ham Hl Hz]
    · isplitl [Ham Hl]
      · iapply (scratch_close c)
        isplitl [Ham]; · iexact Ham
        iexact Hl
      · iexact Hz
    isplitl [HO]; · iapply (owes_close m ρ c); iexact HO
    isplitl [Hx]; · iapply (x_stg c); iexact Hx
    isplitl [Hw]; · iapply (w_stg c); iexact Hw
    iapply (o_stg c); iexact Ho

theorem bigSep_W (Φ : Fin cfg0.W → sProp 𝕄) : bigSep Finset.univ Φ = iprop(Φ (0 : Fin 3) ∗ Φ (1 : Fin 3) ∗ Φ (2 : Fin 3)) := bigSep_W0 Φ

set_option maxRecDepth 100000 in
/-- The pipeline's obligation on the body. -/
theorem body_obligation : BodyObligation (dats (F := F) m ρ 0 c) (defs₀ (F := F)) 𝒱₀ 0 Set.univ := fun t => by
  rw [fin_N0 t]
  rw [bigSep_W, bigSep_W]
  simp only [owns_whole_eq]
  show bodyPre m ρ c ⊢ WP c (bodyAt0 t0_0) fun _ => bodyPost m ρ c
  unfold bodyAt0
  rw [cc0_body_eq]
  exact body_run m ρ c

/-! ## The launch -/

/-- A device's cells other than the barrier's: the kernel's own semaphores. -/
abbrev CO : Type := (Fin 4 × Fin 2) ⊕ (Fin 4 × Fin 2) ⊕ Fin 4 ⊕ Fin 7 ⊕ Fin 7
set_option synthInstance.maxSize 2000 in
instance CO_decidableEq : DecidableEq CO := inferInstance
def osem (k : CO) : SemLoc sig := csem (.inr k)

set_option maxRecDepth 20000 in
set_option synthInstance.maxSize 2000 in
theorem ownSemFacts : Pipeline.OwnSemFacts cfg0.spec osem where
  isScoped := by decide +kernel
  inj := fun a b h => Sum.inr_injective (csem_injective h)
  disj := by decide +kernel

theorem share_eq (w : Fin cfg0.W) : (dats m ρ 0 c).share w = fullShare := by unfold Dat.share; split <;> rfl

/-- The launch's ghost state: the pipeline's, and the ring's. -/
def u₀ : UU := (initOf (Pipeline.cells cfgs cellOf_inj) (Pipeline.launchToks cfgs cellOf_inj), initOf ringCells ringToks)

/-- What of the ring's ghost state is made for device `c`. -/
def G : sProp 𝕄 :=
  iprop((bigSep Finset.univ fun k : CK => roundState ER (ringRd (xs m) (ws m)) (cell c k) 0)
    ∗ ((bigSep Finset.univ fun k : CK => atPos ER (cell c k) 0 ∅ 0) ∗ (bigSep Finset.univ fun k : CK => reached ER (cell c k) 0)) ∗ toks c)

theorem cells_fold (Φ : GSem nD τ sig → sProp 𝕄) :
    bigSep ringCells Φ = bigSep Finset.univ fun c : Dev nD => bigSep Finset.univ fun k : CK => Φ (cell c k) := by
  unfold ringCells; rw [bigSep_map, bigSep_univ_prod]; rfl
theorem toks_fold : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks depToks; rw [bigSep_univ_sum]; rfl

theorem fund_ring : BI.own (ER (initOf ringCells ringToks)) ⊢ (|==> bigSep Finset.univ (G m) : sProp 𝕄) := by
  iintro HX
  imod (Rounds.fund ER (ringRd (xs m) (ws m)) ringCells ringToks) $$ HX with ⟨Hst, Hr, Hat, Htok⟩
  imodintro
  ihave Hst' := (Entails.of_eq (cells_fold fun g => roundState ER (ringRd (xs m) (ws m)) g 0)) $$ Hst
  ihave Hat' := (Entails.of_eq (cells_fold (F := F) fun g => atPos ER g 0 ∅ 0)) $$ Hat
  ihave Hr' := (Entails.of_eq (cells_fold (F := F) fun g => reached ER g 0)) $$ Hr
  ihave Htok' := (Entails.of_eq (toks_fold (F := F))) $$ Htok
  unfold G; simp only [bigSep_sep']
  isplitl [Hst']; · iexact Hst'
  isplitl [Hat' Hr']
  · isplitl [Hat'] <;> iassumption
  iexact Htok'

theorem swap_eq (P Q : sProp 𝕄) : (iprop(P ∗ Q) : sProp 𝕄) = iprop(Q ∗ P) := Entails.antisymm (show P ∗ Q ⊢ Q ∗ P from sep_symm) (show Q ∗ P ⊢ P ∗ Q from sep_symm)

/-- A device's own semaphores and the barrier's, at zero, are its cells at zero. -/
theorem sems0_eq :
    (iprop(Pipeline.ownSems0 (Ix := ℕ) (Name := ℕ) (U := UU) (Lvl := ℕ) (Val := Elt F) (τ := τ) osem c ∗ unscopedSems0 c) : sProp 𝕄)
      = bigSep Finset.univ fun k : CK => semVal (cell c k) 0 := by
  have hu : (unscopedSems0 c : sProp 𝕄) = semVal (cell c kBar) 0 := by
    unfold unscopedSems0; rw [bigSep_eq_bigSepL_of_eq [SemLoc.reg barS] (by decide) (by decide)]; rfl
  rw [hu, bigSep_univ_sum, bigSep_univ_of_subsingleton ()]
  exact swap_eq _ _

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd (xs m) (ws m)) κ (cell c k)))
          ∗ ((bigSep Finset.univ fun k : CK => atPos ER (cell c k) 0 ∅ 0) ∗ (bigSep Finset.univ fun k : CK => reached ER (cell c k) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CK => semVal (cell c k) 0) ∗ bigSep Finset.univ fun k : CK => roundState ER (ringRd (xs m) (ws m)) (cell c k) 0)
      ⊢ (|={Set.univ}=> bigSep Finset.univ fun k : CK => iprop(∃ κ : ℕ, cellInv ER (ringRd (xs m) (ws m)) κ (cell c k)) : sProp 𝕄) from by
        rw [← bigSep_sep']
        exact (bigSep_mono fun k _ => (Rounds.body_intro ER (ringRd (xs m) (ws m)) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_records {Φ Ψ : Dev nD → sProp 𝕄} (h : ∀ c, iprop(records m K ∗ Φ c) ⊢ Ψ c) :
    iprop(records m K ∗ bigSep Finset.univ Φ) ⊢ bigSep Finset.univ Ψ :=
  (sep_mono_left (BI.bigSep_of_persistent Finset.univ (records m K))).trans (by rw [← bigSep_sep']; exact bigSep_mono fun c _ => h c)

theorem G'_intro : iprop(records m K ∗ linear c) ⊢ G' m c := by
  unfold G'
  iintro H
  iexists K
  iexact H

theorem regroup :
    (bigSep Finset.univ fun c : Dev nD => iprop((bigSep Finset.univ fun k : CK => iprop(∃ κ : ℕ, cellInv ER (ringRd (xs m) (ws m)) κ (cell c k)))
          ∗ ((bigSep Finset.univ fun k : CK => atPos ER (cell c k) 0 ∅ 0) ∗ (bigSep Finset.univ fun k : CK => reached ER (cell c k) 0)) ∗ toks c) : sProp 𝕄)
      ⊢ bigSep Finset.univ (G' m) := by
  rw [bigSep_sep', bigSep_sep', bigSep_sep',
    ← bigSep_univ_prod (fun ck : Dev nD × CK => iprop(∃ κ : ℕ, cellInv ER (ringRd (xs m) (ws m)) κ (cell ck.1 ck.2))),
    ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (ringRd (xs m) (ws m)) κ (cell ck.1 ck.2) : sProp 𝕄))) $$ HI
  icases HK with ⟨%K, #HI⟩
  ihave Htk := (toks_around (F := F)) $$ Htok
  iapply (with_records m K fun c => G'_intro m K c)
  isplitr
  · unfold records; isplitl; · iexact HI
    iexact HR
  · unfold linear
    iapply (pair_up (F := F) Finset.univ (fun c : Dev nD => bigSep Finset.univ fun k : CK => atPos ER (cell c k) 0 ∅ 0) payToks)
    isplitl [Hat]; · iexact Hat
    iexact Htk

/-- The launch's global step: all the cells' invariants made, and the rights dealt. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro :
    iprop(Pipeline.unscopedRestP Pipeline.Prefetch.none cfg0.spec c (fun b => m ((c : Thread nD τ).loc b)) ∗ levAts lev lv
        ∗ Pipeline.launchCred (owedFrom 0) c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start
  isplitl
  · isplitl [HG]; · iexact HG
    isplitl [Hc]; · iexact Hc
    iexact Hlev
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hr, Hz⟩
  ihave Hz' := (Entails.of_eq (sems0_eq (F := F) c).symm) $$ Hz
  icases Hz' with ⟨Ho, Hu⟩
  isplitl [Hu]; · iexact Hu
  isplitl [Ho]; · iexact Ho
  iexact Hr

theorem waits : (levAts lev lv : sProp 𝕄) ⊢ Pipeline.cellsWaits cfgs (dats m ρ) 0 0 c :=
  Pipeline.cellsWaits_intro cfgs (dats m ρ) 0 0 c fun w s t => by
    rcases t with ⟨_ | _, ht⟩
    · exact mayWait_at c _ 0 0 (by omega) fun q hq => zero_lt_pidx q hq
    · show _ ⊢ MayWait _ _ _ 0
      rw [← owedFrom_end c]
      exact mayWait_at c _ 0 117 (by omega) fun q hq => zero_lt_pidx q hq

/-! ## The run -/

/-- A window's array after the run. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every execution of the program on the eight devices ends, with each device's arrays at the
    computed contents and every semaphore at zero. -/
theorem run_main : θ_run defs (onTc (τ := τ) (main (F := F))) (s₁ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := owedFrom 0) (howed₀ := fun _ => rfl) (howedN := fun _ => rfl)
    (L := lev) (lv := lv) (hL := lev_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Frame.lean ====
/- The arrays after the run: the two inputs are what they were, and the result is what the device's own steps leave in it. -/
module

public import proofs.«01_k».proof.Proof.Launch
public import Idealize.ShloMosaic.Lib.Pipeline.ValueKit

@[expose] public section

noncomputable section

namespace Cert.KernelIdeal.Ring

open Cert.KernelIdeal Cert.KernelIdeal.Gen

open Idealize.ShloMosaic
open Idealize.ShloMosaic.Pipeline (Dat)
open Idealize.ShloMosaic.TcCoe
open Idealize.SL.Sem

variable {F : FTy → Type} [FloatOps F]
variable (m : (ℓ : Loc nD τ sig) → Buf (Elt F) ℓ) (ρ : Dev nD → PrngReg) (c : Dev nD)

/-- The first input's array ends as it began. -/
theorem finalA_x : finalA m ρ c (0 : Fin 3) = m ((c : Thread nD τ).loc main_arg0) := (dats m ρ 0 c).arrAt_in (0 : Fin 3) rfl _

/-- The second input's array ends as it began. -/
theorem finalA_w : finalA m ρ c (1 : Fin 3) = m ((c : Thread nD τ).loc main_arg1) := (dats m ρ 0 c).arrAt_in (1 : Fin 3) rfl _

/-- The one block of the result's window is its whole array. -/
theorem whole_out : win0_2.WholeAt t0_0 :=
  ⟨flush0_2 t0_0, fun t _ => fin_N0 t, fun a => by fin_cases a <;> exact ⟨rfl, rfl⟩⟩

/-- The result's array ends at the device's rows of the result. -/
theorem finalA_out : finalA m ρ c (2 : Fin 3) = outs m c :=
  (dats m ρ 0 c).arrAt_eq_of_after_last (2 : Fin 3) t0_0 whole_out (outs m c) fun j => rfl

/-- What the first input's block holds is the array itself. -/
theorem xs_eq : xs m c = m ((c : Thread nD τ).loc main_arg0) := by
  funext i
  unfold xs
  blk_simp
  refine congrArg (m _) (funext fun a => Fin.ext ?_)
  fin_cases a <;> (blk_simp; simp; rfl)

/-- What the second input's block holds is the array itself. -/
theorem ws_eq : ws m c = m ((c : Thread nD τ).loc main_arg1) := by
  funext i
  unfold ws
  blk_simp
  refine congrArg (m _) (funext fun a => Fin.ext ?_)
  fin_cases a <;> (blk_simp; simp; rfl)

/-- From any memory with zero counters, every execution on the eight devices ends with each device's result computed, the inputs as
    they were and every semaphore at zero. -/
theorem run_result : θ_run defs (onTc (τ := τ) (main (F := F))) ⟨m, fun _ => 0, ρ⟩ (fun r =>
      (∀ c : Dev nD, r.2.mem ((c.tc : Thread nD τ).loc main_v1) = outs m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨(h.1 c (2 : Fin 3)).trans (finalA_out m ρ c), (h.1 c (0 : Fin 3)).trans (finalA_x m ρ c),
      (h.1 c (1 : Fin 3)).trans (finalA_w m ρ c)⟩, h.2⟩) (run_main m ρ)

/-- The same run, keeping only that the inputs end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_result m ρ)

end Cert.KernelIdeal.Ring

end
-- ==== Proof.Kernel.Body.lean ====
/- The printed body is the body written step by step. -/
module

public import proofs.«01_k».proof.Proof.Kernel.Prog

@[expose] public section

noncomputable section

namespace Cert.Kernel.Ring

open Idealize.ShloMosaic Idealize.SL.Sem Cert.Kernel.Gen

variable {F : FTy → Type} [FloatOps F]

/-- The printed body is the body written step by step: by unfolding both. -/
theorem cc0_body_eq (arg0 : Memref sig .tc .vmem S4096x512 .f32) (harg0 : arg0.IsWhole) (arg1 : Memref sig .tc .vmem S512x8192 .f32) (harg1 : arg1.IsWhole) (arg2 : Memref sig .tc .vmem S512x8192 .f32) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S8x8x128 .f32) (harg11 : arg11.IsWhole) (arg12 : DmaSems sig S2) (arg13 : DmaSems sig S2) (arg14 : DmaSems sig S2) (arg15 : DmaSems sig S2) (arg16 : DmaSems sig S2) (arg17 : DmaSems sig S2) (arg18 : DmaSems sig S2) (arg19 : DmaSems sig S2) (arg20 : DmaSems sig S7) (arg21 : DmaSems sig S7) (arg22 : Sems sig S_) (arg23 : Sems sig S_) (arg24 : Sems sig S_) (arg25 : Sems sig S_) :
    cc0_body (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 arg20 arg21 arg22 arg23 arg24 arg25
      = body ⟨arg0, arg1, arg2, arg11, arg20, arg21, four ⟨arg3, harg3, arg7, arg12, arg13, arg22.sem, 0, by decide, true⟩
          ⟨arg4, harg4, arg8, arg14, arg15, arg23.sem, 2048, by decide, false⟩
          ⟨arg5, harg5, arg9, arg16, arg17, arg24.sem, 1024, by decide, true⟩
          ⟨arg6, harg6, arg10, arg18, arg19, arg25.sem, 3072, by decide, false⟩⟩ := by
  chain_rfl

end Cert.Kernel.Ring
-- ==== Proof.Sums.lean ====
/- What the ring adds up, over the extended reals: each block of the result before quantisation is the sum, over all the devices,
   of their shares of the product, with the negative entries put to zero. -/
module

public import proofs.«01_k».proof.Proof.Sched
public import Idealize.ShloMosaic.Lib.ValueIdx
public import Idealize.ShloMosaic.Lib.Pointwise.Contract
public import Idealize.ShloMosaic.Lib.Pipeline.Value
public import Idealize.ShloMosaic.PureOps.Ideal.Laws

@[expose] public section

noncomputable section

namespace Cert.KernelIdeal.Ring

open Cert.KernelIdeal Cert.KernelIdeal.Gen

open Idealize.ShloMosaic hiding ix2
open Idealize.ShloMosaic.ValueIdx

/-! ## The steps at an entry -/

/-- A product of two blocks, entry by entry. -/
theorem dot_apply (x : Vec Ideal S512x512 .f32) (w : Vec Ideal S512x1024 .f32) (r : Fin 512) (j : Fin 1024) :
    Ideal.matmul dot_S512x512_S512x1024_S512x1024_1_0_0_1_n_n x w (fun _ => 0) (ix2 r j) = ∑ k : Fin 512, x (ix2 r k) * w (ix2 k j) := by
  rw [Ideal.matmul_apply₁_of dot_S512x512_S512x1024_S512x1024_1_0_0_1_n_n (a := (1 : Fin 2)) rfl (K := 512) rfl x w (fun _ => 0) (ix2 r j)
    (fun k => ix2 r k) (fun k => ix2 k j) (fun k => by funext a; match a with | 0 => rfl | 1 => rfl) (fun k => by funext a; match a with | 0 => rfl | 1 => rfl)]
  exact zero_add _

theorem zeros_eq : (constant (F := Ideal) S512x1024 .f32 0x00000000#32) = fun _ => (0 : EReal) := by
  funext i
  exact Ideal.ofBits_zero_f32

/-- The product that a pass begins with. -/
theorem pay3_apply (x : Vec Ideal S512x512 .f32) (w : Vec Ideal S512x1024 .f32) (r : Fin 512) (j : Fin 1024) :
    k0_pay3 x w (ix2 r j) = ∑ k : Fin 512, x (ix2 r k) * w (ix2 k j) := by
  rw [← dot_apply]
  simp only [k0_pay3, k0_pay1, shapeCast_self, zeros_eq]
  rfl

/-- The product of a later step. -/
theorem pay10_apply (x : Vec Ideal S512x512 .f32) (w : Vec Ideal S512x1024 .f32) (r : Fin 512) (j : Fin 1024) :
    k0_pay10 x w (ix2 r j) = ∑ k : Fin 512, x (ix2 r k) * w (ix2 k j) := by
  rw [← dot_apply]
  simp only [k0_pay10, k0_pay8, shapeCast_self, zeros_eq]
  rfl

/-- What is sent first is the first product. -/
theorem first_eq (v : FVec Ideal S512x1024 .f32) (i : S512x1024.Idx) : sq (k0_pay4 v) i = v i := by
  unfold k0_pay4
  rw [show ∀ u : FVec Ideal S512x1024 .bf16, sq (shapeCast S1x512x1024 u shapeCasts_S512x1024_S1x512x1024) = u from fun u => shapeCast_shapeCast u _ _]
  rfl

/-- What is sent on is what arrived and the next product. -/
theorem next_eq (u : FVec Ideal S512x1024 .bf16) (v : FVec Ideal S512x1024 .f32) (i : S512x1024.Idx) : sq (k0_pay11 (unsq u) v) i = (u i + v i : EReal) := by
  unfold k0_pay11
  rw [show ∀ u : FVec Ideal S512x1024 .bf16, sq (shapeCast S1x512x1024 u shapeCasts_S512x1024_S1x512x1024) = u from fun u => shapeCast_shapeCast u _ _]
  rw [show shapeCast S512x1024 (unsq u) shapeCasts_S1x512x1024_S512x1024 = u from shapeCast_shapeCast u _ _]
  rfl

/-- What is kept at last is what arrived and the last product, or zero if that is negative. -/
theorem last_eq (u : FVec Ideal S512x1024 .bf16) (v : FVec Ideal S512x1024 .f32) (i : S512x1024.Idx) : k0_pay79 (unsq u) v i = (max (u i + v i) 0 : EReal) := by
  unfold k0_pay79
  rw [show shapeCast S512x1024 (unsq u) shapeCasts_S1x512x1024_S512x1024 = u from shapeCast_shapeCast u _ _]
  show (max (u i + v i) (Ideal.ofBits .f32 0x00000000#32) : EReal) = _
  rw [Ideal.ofBits_zero_f32]

/-! ## The devices upstream -/

/-- How far a lane's data come at each hop, to the right. -/
def stride (ℓ : Fin 4) : ℕ := bif (LL ℓ).cw then 7 else 1
/-- The device `i` hops upstream. -/
def up (ℓ : Fin 4) (i : ℕ) (c : Dev nD) : Dev nD := ⟨(c.val + stride ℓ * i) % 8, Nat.mod_lt _ (by decide)⟩

theorem up_zero (ℓ : Fin 4) (c : Dev nD) : up ℓ 0 c = c := Fin.ext (by show (c.val + stride ℓ * 0) % 8 = c.val; have : c.val < 8 := c.isLt; omega)
theorem up_eight (ℓ : Fin 4) (c : Dev nD) : up ℓ 8 c = c := Fin.ext (by show (c.val + stride ℓ * 8) % 8 = c.val; have : c.val < 8 := c.isLt; omega)
theorem src_eq (ℓ : Fin 4) (c : Dev nD) : (LL ℓ).src c = up ℓ 1 c := by revert ℓ c; decide +kernel
theorem up_up (ℓ : Fin 4) (i k : ℕ) (c : Dev nD) : up ℓ i (up ℓ k c) = up ℓ (i + k) c :=
  Fin.ext (by show ((c.val + stride ℓ * k) % 8 + stride ℓ * i) % 8 = (c.val + stride ℓ * (i + k)) % 8; rw [Nat.mul_add]; omega)
/-- Eight hops pass every device once. -/
theorem up_bijective (ℓ : Fin 4) (c : Dev nD) : Function.Bijective fun i : Fin 8 => up ℓ i.val c := by
  have h : ∀ (ℓ : Fin 4) (c : Dev nD), Function.Injective fun i : Fin 8 => up ℓ i.val c := by decide +kernel
  exact Finite.injective_iff_bijective.mp (h ℓ c)

/-! ## The chunks -/

variable (xs : Dev nD → Vec Ideal S4096x512 .f32) (ws : Dev nD → Vec Ideal S512x8192 .f32)

/-- Row `r` of chunk `d`. -/
abbrev rowAt (d : Dev nD) (r : Fin 512) : Fin 4096 := ⟨512 * d.val + r.val, by have : d.val < 8 := d.isLt; omega⟩
/-- Column `j` of the block at `b`. -/
abbrev colAt (b : ℕ) (h : b + 1024 ≤ 8192) (j : Fin 1024) : Fin 8192 := ⟨b + j.val, by omega⟩

theorem cols_ix (W : Vec Ideal S512x8192 .f32) (b : ℕ) (h : b + 1024 ≤ 8192) (k : Fin 512) (j : Fin 1024) : cols W b h (ix2 k j) = W (ix2 k (colAt b h j)) := by
  refine congrArg W (funext fun a => ?_)
  match a with
  | 0 => exact Fin.ext (by show 0 + 1 * k.val = k.val; omega)
  | 1 => exact Fin.ext (by show b + 1 * j.val = b + j.val; omega)

theorem chunkAt_ix (X : Vec Ideal S4096x512 .f32) (off : Fin 2 → ℕ) (h : ∀ a, off a + S512x512.size a ≤ S4096x512.size a) (d : Dev nD) (e : off = ![512 * d.val, 0])
    (r k : Fin 512) : chunkAt X off h (ix2 r k) = X (ix2 (rowAt d r) k) := by
  subst e
  refine congrArg X (funext fun a => ?_)
  match a with
  | 0 => exact Fin.ext (by show 512 * d.val + 1 * r.val = 512 * d.val + r.val; omega)
  | 1 => exact Fin.ext (by show 0 + 1 * k.val = k.val; omega)

/-- The chunk that a pass begins with is that of the device upstream. -/
theorem xin_ix (ℓ : Fin 4) (c : Dev nD) (r k : Fin 512) : xin xs ℓ c (ix2 r k) = xs c (ix2 (rowAt (up ℓ 1 c) r) k) := by
  unfold xin
  show (bif (LL ℓ).cw then _ else _ : Vec Ideal S512x512 .f32) _ = _
  cases h : (LL ℓ).cw
  · refine chunkAt_ix (xs c) _ _ (up ℓ 1 c) ((k0_off2_eq c).trans ?_) r k
    rw [show (c.val + 1) % 8 = (up ℓ 1 c).val by show _ = (c.val + stride ℓ * 1) % 8; simp only [stride, h, cond_false]]
  · refine chunkAt_ix (xs c) _ _ (up ℓ 1 c) ((k0_off1_eq c).trans ?_) r k
    rw [show (c.val + 7) % 8 = (up ℓ 1 c).val by show _ = (c.val + stride ℓ * 1) % 8; simp only [stride, h, cond_true]]

/-- The chunk of step `s` is that of the device `s + 2` hops upstream. -/
theorem xch_ix (ℓ : Fin 4) (s : Fin 7) (c : Dev nD) (r k : Fin 512) : xch xs ℓ s c (ix2 r k) = xs c (ix2 (rowAt (up ℓ (s.val + 2) c) r) k) := by
  unfold xch
  have hs := s.isLt
  show (bif (LL ℓ).cw then _ else _ : Vec Ideal S512x512 .f32) _ = _
  cases h : (LL ℓ).cw
  · refine chunkAt_ix (xs c) _ _ (up ℓ (s.val + 2) c) ((k0_off4_eq c s).trans ?_) r k
    rw [show (c.val + s.val + 2) % 8 = (up ℓ (s.val + 2) c).val by show _ = (c.val + stride ℓ * (s.val + 2)) % 8; simp only [stride, h, cond_false]; omega]
  · refine chunkAt_ix (xs c) _ _ (up ℓ (s.val + 2) c) ((k0_off3_eq c s).trans ?_) r k
    rw [show (c.val + 14 - s.val) % 8 = (up ℓ (s.val + 2) c).val by show _ = (c.val + stride ℓ * (s.val + 2)) % 8; simp only [stride, h, cond_true]; omega]

/-- Device `c`'s share of an entry of the product. -/
def part (c : Dev nD) (R : Fin 4096) (J : Fin 8192) : EReal := ∑ k : Fin 512, xs c (ix2 R k) * ws c (ix2 k J)

theorem base_le (ℓ : Fin 4) {e : ℕ} (he : e ≤ 4096) : (LL ℓ).base + e + 1024 ≤ 8192 := by have := (LL ℓ).hbase; omega

theorem in_apply (ℓ : Fin 4) (e : ℕ) (he : e ≤ 4096) (c : Dev nD) (r : Fin 512) (j : Fin 1024) :
    prod (xin xs ℓ c) (wat ws ℓ e he c) (ix2 r j) = part xs ws c (rowAt (up ℓ 1 c) r) (colAt ((LL ℓ).base + e) (base_le ℓ he) j) := by
  refine (pay3_apply _ _ r j).trans ?_
  exact Finset.sum_congr rfl fun k _ => by rw [xin_ix]; exact congrArg _ (cols_ix ..)

theorem ch_apply (ℓ : Fin 4) (s : Fin 7) (e : ℕ) (he : e ≤ 4096) (c : Dev nD) (r : Fin 512) (j : Fin 1024) :
    k0_pay10 (xch xs ℓ s c) (wat ws ℓ e he c) (ix2 r j) = part xs ws c (rowAt (up ℓ (s.val + 2) c) r) (colAt ((LL ℓ).base + e) (base_le ℓ he) j) := by
  rw [pay10_apply]
  exact Finset.sum_congr rfl fun k _ => by rw [xch_ix]; exact congrArg _ (cols_ix ..)

/-! ## The partial sums -/

/-- The partial sum over the first `n` devices upstream of `c`, itself the first, of an entry of the chunk of the `n`-th. -/
def upto (ℓ : Fin 4) (n : ℕ) (c : Dev nD) (r : Fin 512) (J : Fin 8192) : EReal := ∑ i ∈ Finset.range n, part xs ws (up ℓ i c) (rowAt (up ℓ n c) r) J

theorem upto_one (ℓ : Fin 4) (c : Dev nD) (r : Fin 512) (J : Fin 8192) : upto xs ws ℓ 1 c r J = part xs ws c (rowAt (up ℓ 1 c) r) J := by
  unfold upto
  rw [Finset.sum_range_one, up_zero]

/-- One more device. -/
theorem upto_succ (ℓ : Fin 4) (n : ℕ) (c : Dev nD) (r : Fin 512) (J : Fin 8192) :
    upto xs ws ℓ (n + 1) c r J = upto xs ws ℓ n ((LL ℓ).src c) r J + part xs ws c (rowAt (up ℓ (n + 1) c) r) J := by
  unfold upto
  rw [Finset.sum_range_succ', up_zero, src_eq, up_up]
  exact congrArg (· + _) (Finset.sum_congr rfl fun i _ => by rw [up_up])

/-- The sum over eight is the sum over all, at the device's own chunk. -/
theorem upto_eight (ℓ : Fin 4) (c : Dev nD) (r : Fin 512) (J : Fin 8192) : upto xs ws ℓ 8 c r J = ∑ d : Dev nD, part xs ws d (rowAt c r) J := by
  unfold upto
  rw [up_eight, Finset.sum_range]
  exact Fintype.sum_bijective _ (up_bijective ℓ c) _ _ fun _ => rfl

theorem sent_zero (ℓ : Fin 4) (c : Dev nD) : sent xs ws ℓ 0 c = sq (k0_pay4 (prod (xin xs ℓ c) (wat ws ℓ 0 (by decide) c))) := rfl
theorem sent_seven (ℓ : Fin 4) (c : Dev nD) : sent xs ws ℓ 7 c = sq (k0_pay4 (prod (xin xs ℓ c) (wat ws ℓ 4096 (by decide) c))) := rfl
theorem sent_succ (ℓ : Fin 4) (t : ℕ) (h : t + 1 ≠ 7) (c : Dev nD) : sent xs ws ℓ (t + 1) c
    = sq (k0_pay11 (unsq (sent xs ws ℓ t ((LL ℓ).src c))) (k0_pay10 (xch xs ℓ ⟨t % 7, Nat.mod_lt t (by decide)⟩ c) (wat ws ℓ (passAt t) (passAt_le t) c))) := by
  rw [sent, if_neg h]

/-- The partial sums of the first pass, -/
theorem sent_lo (ℓ : Fin 4) (t : ℕ) (ht : t < 7) : ∀ (c : Dev nD) (r : Fin 512) (j : Fin 1024),
    sent xs ws ℓ t c (ix2 r j) = upto xs ws ℓ (t + 1) c r (colAt ((LL ℓ).base + 0) (base_le ℓ (by decide)) j) := by
  induction t with
  | zero => intro c r j; rw [sent_zero, first_eq, in_apply, upto_one]
  | succ t ih =>
    intro c r j
    rw [sent_succ xs ws ℓ t (by omega), next_eq, ih (by omega), ch_apply, upto_succ xs ws ℓ (t + 1) c r]
    have h1 : t % 7 = t := by omega
    have h2 : passAt t = 0 := if_pos (by omega)
    simp only [h1, h2]
/-- and of the second. -/
theorem sent_hi (ℓ : Fin 4) (t : ℕ) (ht : t < 7) : ∀ (c : Dev nD) (r : Fin 512) (j : Fin 1024),
    sent xs ws ℓ (7 + t) c (ix2 r j) = upto xs ws ℓ (t + 1) c r (colAt ((LL ℓ).base + 4096) (base_le ℓ (by decide)) j) := by
  induction t with
  | zero => intro c r j; rw [Nat.add_zero, sent_seven, first_eq, in_apply, upto_one]
  | succ t ih =>
    intro c r j
    rw [← Nat.add_assoc, sent_succ xs ws ℓ (7 + t) (by omega), next_eq, ih (by omega), ch_apply, upto_succ xs ws ℓ (t + 1) c r]
    have h1 : (7 + t) % 7 = t := by omega
    have h2 : passAt (7 + t) = 4096 := if_neg (by omega)
    simp only [h1, h2]

/-! ## The blocks -/

/-- An entry of the product, its negative values put to zero. -/
def relu (R : Fin 4096) (J : Fin 8192) : EReal := max (∑ d : Dev nD, part xs ws d R J) 0

theorem resLo_apply (ℓ : Fin 4) (c : Dev nD) (r : Fin 512) (j : Fin 1024) :
    resLo xs ws ℓ c (ix2 r j) = relu xs ws (rowAt c r) (colAt ((LL ℓ).base + 0) (base_le ℓ (by decide)) j) := by
  unfold resLo
  rw [last_eq, sent_lo xs ws ℓ 6 (by decide), ch_apply]
  have h := upto_succ xs ws ℓ 7 c r (colAt ((LL ℓ).base + 0) (base_le ℓ (by decide)) j)
  rw [upto_eight] at h
  exact congrArg (max · 0) h.symm

theorem resHi_apply (ℓ : Fin 4) (c : Dev nD) (r : Fin 512) (j : Fin 1024) :
    resHi xs ws ℓ c (ix2 r j) = relu xs ws (rowAt c r) (colAt ((LL ℓ).base + 4096) (base_le ℓ (by decide)) j) := by
  unfold resHi
  rw [last_eq, sent_hi xs ws ℓ 6 (by decide), ch_apply]
  have h := upto_succ xs ws ℓ 7 c r (colAt ((LL ℓ).base + 4096) (base_le ℓ (by decide)) j)
  rw [upto_eight] at h
  exact congrArg (max · 0) h.symm

/-- Block `g` of device `c`'s result before quantisation holds the rows of chunk `c` and the columns of block `g`. -/
theorem resAll_apply (c : Dev nD) (g : Fin 8) (r : Fin 512) (j : Fin 1024) :
    resAll xs ws c g (ix2 r j) = relu xs ws (rowAt c r) (colAt (1024 * g.val) (by omega) j) := by
  match g with
  | 0 => exact resLo_apply xs ws 0 c r j
  | 1 => exact resLo_apply xs ws 2 c r j
  | 2 => exact resLo_apply xs ws 1 c r j
  | 3 => exact resLo_apply xs ws 3 c r j
  | 4 => exact resHi_apply xs ws 0 c r j
  | 5 => exact resHi_apply xs ws 2 c r j
  | 6 => exact resHi_apply xs ws 1 c r j
  | 7 => exact resHi_apply xs ws 3 c r j

end Cert.KernelIdeal.Ring

end
-- ==== Proof.Quant.lean ====
/- The quantiser over the extended reals, where rounding to e4m3 is the identity: dividing by the scale and multiplying by it again.
   The kernel takes 1 for the scale when everything is zero, and does not clip; the reference clips, and puts the sign back. -/
module

public import Idealize.ShloMosaic.PureOps.Ideal
public import Idealize.ShloMosaic.PureOps.Ideal.Laws

@[expose] public section

noncomputable section

namespace Cert.Quant

open Idealize.ShloMosaic

/-- The words of −∞, of 448 and of 1. -/
theorem word_bot : Ideal.ofBits .f32 0xFF800000#32 = ⊥ := by
  simp [Ideal.ofBits, Ideal.ieee]
theorem word_448 : Ideal.ofBits .f32 0x43E00000#32 = ((448 : ℝ) : EReal) := by
  simp [Ideal.ofBits, Ideal.ieee, -EReal.coe_mul]
  norm_num
theorem word_one : Ideal.ofBits .f32 0x3F800000#32 = ((1 : ℝ) : EReal) := by
  simp [Ideal.ofBits, Ideal.ieee, -EReal.coe_mul]
  norm_num

/-- Division of reals. -/
theorem div_real (x s : ℝ) (h : s ≠ 0) : Ideal.div (x : EReal) (s : EReal) = ((x / s : ℝ) : EReal) := by
  unfold Ideal.div
  rw [if_neg (by exact_mod_cast h), ← EReal.coe_inv, ← EReal.coe_mul, div_eq_mul_inv]

/-- The kernel's scale, from the largest absolute value. -/
def scale (A : EReal) : EReal := if 0 < A then Ideal.div A ((448 : ℝ) : EReal) else ((1 : ℝ) : EReal)
/-- The kernel's quantiser. -/
def ker (A y : EReal) : EReal := Ideal.div y (scale A) * scale A
/-- The reference's. -/
def ref (A y : EReal) : EReal :=
  Ideal.sign (Ideal.div y (Ideal.div A ((448 : ℝ) : EReal)))
    * min (max (Ideal.div y (Ideal.div A ((448 : ℝ) : EReal))) (-Ideal.div y (Ideal.div A ((448 : ℝ) : EReal)))) ((448 : ℝ) : EReal)
    * Ideal.div A ((448 : ℝ) : EReal)

theorem div_zero_real (s : ℝ) (h : s ≠ 0) : Ideal.div (0 : EReal) (s : EReal) = 0 := by
  have := div_real 0 s h
  rwa [zero_div, EReal.coe_zero] at this

theorem sign_zero : Ideal.sign 0 = 0 := by
  show ((SignType.sign (0 : ℝ) : ℝ) : EReal) = 0
  simp

/-- The two agree on every value between zero and the largest. -/
theorem ker_eq_ref (A y : EReal) (h0 : 0 ≤ y) (hA : y ≤ A) : ker A y = ref A y := by
  unfold ker ref
  rcases (h0.trans hA).eq_or_lt with rfl | hpos
  · obtain rfl : y = 0 := le_antisymm hA h0
    unfold scale
    rw [if_neg (lt_irrefl _), div_zero_real 1 one_ne_zero, div_zero_real 448 (by norm_num), mul_zero, zero_mul]
  · unfold scale
    rw [if_pos hpos]
    induction A with
    | bot => exact absurd hpos (by simp)
    | top =>
      have e : Ideal.div (⊤ : EReal) ((448 : ℝ) : EReal) = ⊤ := by
        unfold Ideal.div
        rw [if_neg (by exact_mod_cast (by norm_num : (448 : ℝ) ≠ 0)), ← EReal.coe_inv]
        exact EReal.top_mul_coe_of_pos (by norm_num)
      have e' : Ideal.div y ⊤ = 0 := by
        unfold Ideal.div
        rw [if_neg (by simp), EReal.inv_top, mul_zero]
      rw [e, e', sign_zero, zero_mul, zero_mul, zero_mul]
    | coe a =>
      have ha : 0 < a := by exact_mod_cast hpos
      induction y with
      | bot => exact absurd h0 (by simp)
      | top => exact absurd hA (by simp)
      | coe x =>
        have hx : 0 ≤ x := by exact_mod_cast h0
        have hxa : x ≤ a := by exact_mod_cast hA
        have hs : (0 : ℝ) < a / 448 := by positivity
        rw [div_real a 448 (by norm_num), div_real x _ hs.ne']
        congr 1
        have hq : 0 ≤ x / (a / 448) := by positivity
        have hq' : x / (a / 448) ≤ 448 := by rw [div_le_iff₀ hs]; linarith
        generalize x / (a / 448) = q at hq hq'
        have h1 : (max (q : EReal) (-(q : EReal))) = (q : EReal) := max_eq_left (by exact_mod_cast (by linarith : -q ≤ q))
        have h2 : min (q : EReal) ((448 : ℝ) : EReal) = (q : EReal) := min_eq_left (by exact_mod_cast hq')
        rw [h1, h2]
        show (q : EReal) = ((SignType.sign q : ℝ) : EReal) * (q : EReal)
        rcases hq.eq_or_lt with rfl | hq0
        · simp
        · rw [_root_.sign_pos hq0]
          simp

end Cert.Quant

end
-- ==== Proof.Out.lean ====
/- The result over the extended reals: the devices' maxima together are the largest entry of all, and each entry of a device's result
   is its entry of the product, negative values at zero, put through the quantiser. -/
module

public import proofs.«01_k».proof.Proof.Sums
public import proofs.«01_k».proof.Proof.Quant

@[expose] public section

noncomputable section

namespace Cert.KernelIdeal.Ring

open Cert.KernelIdeal Cert.KernelIdeal.Gen

open Idealize.ShloMosaic hiding ix2
open Idealize.ShloMosaic.ValueIdx

/-! ## Maxima, by what lies above them -/

/-- A bound of a reshaped array is a bound of the array. -/
theorem reshaped_le {s t : Shape} (v : s.Idx → EReal) (h : s.ShapeCasts t) (h' : t.ShapeCasts s) (b : EReal) :
    (∀ k, shapeCast t v h k ≤ b) ↔ ∀ i, v i ≤ b := by
  constructor
  · intro H i
    rw [← shapeCast_shapeCast v h h']
    exact H _
  · intro H k
    exact H _

/-- A maximum over every axis, from −∞: its upper bounds are those of all the entries. -/
theorem total_max_le {s t : Shape} {axes : List (Fin s.rank)} (v : FVec Ideal s .f32) (h : s.Reduces axes t) (ht : ∀ a, t.size a = 1)
    (hφ : FKind.Formats .f32) (hacc : (0xFF800000#32 : BitVec 32) = FKind.maximumf.neutral .f32 hφ) (j : t.Idx) (b : EReal) :
    multiReduction .maximumf axes t v 0xFF800000#32 h hφ hacc j ≤ b ↔ ∀ i, v i ≤ b := by
  rw [multiReduction_maximumf_eq_fold, Finset.filter_true_of_mem fun i _ => funext fun a => Fin.ext (by
    have := (h.drop i a).isLt; have := (j a).isLt; have := ht a; omega)]
  refine (Finset.fold_max_le (f := v) (b := Ideal.ofBits .f32 0xFF800000#32) b).trans ?_
  rw [Cert.Quant.word_bot]
  simp

theorem ones : ∀ a, S1.size a = 1 := by decide

/-- The running maximum's upper bounds. -/
theorem resmax_le (am : Ideal .f32) (v : FVec Ideal S512x1024 .f32) (b : EReal) : resmax am v ≤ b ↔ am ≤ b ∧ ∀ i, v i ≤ b := by
  unfold resmax
  refine (max_le_iff (a := (am : EReal))).trans (and_congr Iff.rfl ?_)
  refine (total_max_le _ _ ones (.inl rfl) rfl _ b).trans ?_
  exact reshaped_le v _ shapeCasts_S1x512x1024_S512x1024 b

/-- The kernel's choice of a scale, on one value. -/
theorem select_scale (x : Ideal .f32) :
    Scalar.select (Scalar.cmpf .ogt x (Scalar.ofBits .f32 0x00000000#32)) (Scalar.divf x (Scalar.ofBits .f32 0x43E00000#32)) (Scalar.ofBits .f32 0x3F800000#32)
      = Cert.Quant.scale x := by
  rw [Ideal.scalar_cmpf_def, Ideal.scalar_divf_def, Ideal.ofBits_def, Ideal.ofBits_def, Ideal.ofBits_def, Ideal.ofBits_zero_f32, Cert.Quant.word_448, Cert.Quant.word_one]
  unfold Cert.Quant.scale Ideal.cmp
  by_cases h : (0 : EReal) < x
  · rw [if_pos h]
    simp [Scalar.select, h]
  · rw [if_neg h]
    simp [Scalar.select, h]

variable (xs : Dev nD → Vec Ideal S4096x512 .f32) (ws : Dev nD → Vec Ideal S512x8192 .f32)

theorem relu_nonneg (R : Fin 4096) (J : Fin 8192) : 0 ≤ relu xs ws R J := le_max_right _ _

/-- A bound of every block of a device is a bound of its rows. -/
theorem blocks_le (c : Dev nD) (b : EReal) : (∀ g i, resAll xs ws c g i ≤ b) ↔ ∀ r J, relu xs ws (rowAt c r) J ≤ b := by
  constructor
  · intro H r J
    have h := H ⟨J.val / 1024, by omega⟩ (ix2 r ⟨J.val % 1024, Nat.mod_lt _ (by decide)⟩)
    rw [resAll_apply] at h
    rwa [show colAt (1024 * (J.val / 1024)) (by omega) ⟨J.val % 1024, Nat.mod_lt _ (by decide)⟩ = J from Fin.ext (Nat.div_add_mod _ _)] at h
  · intro H g i
    rw [ValueIdx.eq_ix2 i]
    exact (resAll_apply xs ws c g (i 0) (i 1)).le.trans (H _ _)

/-- A device's maximum, by what lies above it. -/
theorem lmax_le (c : Dev nD) (b : EReal) : lmax xs ws c ≤ b ↔ ∀ r J, relu xs ws (rowAt c r) J ≤ b := by
  rw [← blocks_le]
  unfold lmax lmaxLo
  simp only [resmax_le]
  rw [show (Scalar.ofBits (F := Ideal) .f32 0x00000000#32 : EReal) = 0 from Ideal.ofBits_zero_f32]
  constructor
  · rintro ⟨⟨⟨⟨⟨⟨⟨⟨-, h0⟩, h1⟩, h2⟩, h3⟩, h4⟩, h5⟩, h6⟩, h7⟩ g
    match g with
    | 0 => exact h0
    | 1 => exact h2
    | 2 => exact h1
    | 3 => exact h3
    | 4 => exact h4
    | 5 => exact h6
    | 6 => exact h5
    | 7 => exact h7
  · intro H
    refine ⟨⟨⟨⟨⟨⟨⟨⟨?_, H 0⟩, H 2⟩, H 1⟩, H 3⟩, H 4⟩, H 6⟩, H 5⟩, H 7⟩
    refine le_trans ?_ (H 0 (ix2 0 0))
    rw [resAll_apply]
    exact relu_nonneg ..

/-- The largest entry of all. -/
def amax : EReal := ⨆ R, ⨆ J, relu xs ws R J

theorem amax_le (b : EReal) : amax xs ws ≤ b ↔ ∀ R J, relu xs ws R J ≤ b := by
  unfold amax
  simp only [iSup_le_iff]
theorem relu_le (R : Fin 4096) (J : Fin 8192) : relu xs ws R J ≤ amax xs ws := (amax_le xs ws _).mp le_rfl R J

/-- The device that holds a row of the product, and the row's place there. -/
def devOf (R : Fin 4096) : Dev nD := (⟨R.val / 512, by omega⟩ : Fin 8)
def inDev (R : Fin 4096) : Fin 512 := ⟨R.val % 512, by omega⟩
theorem rowAt_devOf (R : Fin 4096) : rowAt (devOf R) (inDev R) = R := Fin.ext (Nat.div_add_mod _ _)

/-- A bound of every entry of the table is a bound of every device's number. -/
theorem table_le (t : Dev nD → EReal) (b : EReal) : (∀ i, table (F := Ideal) t i ≤ b) ↔ ∀ d, t d ≤ b := by
  constructor
  · intro H d
    exact H (fun a => match a with | 0 => d | 1 => (0 : Fin 8) | 2 => (0 : Fin 128))
  · intro H i
    exact H _

/-- A bound of the table at its four axes. -/
theorem table4_le (t : Dev nD → EReal) (b : EReal) : (∀ i, k0_pay182 (F := Ideal) (table (F := Ideal) t) i ≤ b) ↔ ∀ d, t d ≤ b := by
  unfold k0_pay182
  exact (reshaped_le (table (F := Ideal) t) _ (by decide) b).trans (table_le t b)

/-- A bound of every device's maximum is a bound of every entry. -/
theorem maxima_le (b : EReal) : (∀ d, lmax xs ws d ≤ b) ↔ amax xs ws ≤ b := by
  rw [amax_le]
  constructor
  · intro H R J
    have h := (lmax_le xs ws (devOf R) b).mp (H _) (inDev R) J
    rwa [rowAt_devOf] at h
  · intro H d
    exact (lmax_le xs ws d b).mpr fun r J => H _ J

/-- The largest number of the table is the largest entry of all. -/
theorem table_max :
    (extractAt ![0, 0, 0, 0] (shapeCast S1x1x1x1 (multiReduction .maximumf [1, 2, 3] S1 (k0_pay182 (table (lmax xs ws))) 0xFF800000#32 reduces_S1x8x8x128_S1 (.inl rfl) rfl) shapeCasts_S1_S1x1x1x1) inpos_S1x1x1x1_p0_0_0_0 : EReal) = amax xs ws := by
  refine eq_of_forall_ge_iff fun b => ?_
  refine (total_max_le _ _ ones (.inl rfl) rfl _ b).trans ?_
  exact (table4_le _ b).trans (maxima_le xs ws b)

/-- The table of the devices' maxima gives the kernel's scale. -/
theorem scale_eq : k0_pay183 (k0_pay182 (table (lmax xs ws))) = Cert.Quant.scale (amax xs ws) := by
  unfold k0_pay183
  refine (select_scale _).trans ?_
  rw [table_max]

/-- What a scale makes of one entry. -/
theorem pay184_apply (v : FVec Ideal S1x8x8x128 .f32) (u : Vec Ideal S512x1024 .f32) (i : S512x1024.Idx) :
    k0_pay184 v u i = Ideal.div (u i) (k0_pay183 v) * k0_pay183 v := by
  unfold k0_pay184
  rw [shapeCast_self]
  generalize k0_pay183 v = z
  rfl

/-- Each entry of a block of the result. -/
theorem outAll_apply (c : Dev nD) (g : Fin 8) (r : Fin 512) (j : Fin 1024) :
    outAll xs ws c g (ix2 r j) = Cert.Quant.ker (amax xs ws) (relu xs ws (rowAt c r) (colAt (1024 * g.val) (by omega) j)) := by
  unfold outAll
  rw [pay184_apply, scale_eq, resAll_apply]
  rfl

/-- A device's result, read at a row and a column. -/
theorem glue_apply {α : Type} (f : Fin 8 → S512x1024.Idx → α) (r : Fin 512) (J : Fin 8192) :
    glue f (ix2 r J) = f ⟨J.val / 1024, by omega⟩ (ix2 r ⟨J.val % 1024, Nat.mod_lt _ (by decide)⟩) := by
  unfold glue
  refine congrArg _ (funext fun a => ?_)
  match a with
  | 0 => rfl
  | 1 => rfl

/-- Each entry of a device's result. -/
theorem out_apply (c : Dev nD) (r : Fin 512) (J : Fin 8192) :
    glue (outAll xs ws c) (ix2 r J) = Cert.Quant.ker (amax xs ws) (relu xs ws (rowAt c r) J) := by
  refine (glue_apply _ r J).trans ((outAll_apply xs ws c _ r _).trans ?_)
  rw [show colAt (1024 * (J.val / 1024)) (by omega) ⟨J.val % 1024, Nat.mod_lt _ (by decide)⟩ = J from Fin.ext (Nat.div_add_mod _ _)]

end Cert.KernelIdeal.Ring

end
-- ==== Proof.Ref.lean ====
/- The reference's run over the extended reals: what its result holds, as one term in the two arguments. -/
module

public import proofs.«01_k».proof.Proof.Gen.ReferenceIdeal.Frame
public import Idealize.ShloMosaic.Lib.Pipeline.ValueKit
public import Idealize.ShloMosaic.Lib.Pipeline.Value
public import Idealize.ShloMosaic.Lib.StableHlo.Run
public import Idealize.ShloMosaic.PureOps.Ideal
public import Idealize.ShloMosaic.PureOps.Ideal.Laws

@[expose] public section

noncomputable section

namespace Cert.ReferenceIdeal.Plain

open Cert.ReferenceIdeal Cert.ReferenceIdeal.Gen

open Idealize.ShloMosaic Idealize.ShloMosaic.TcCoe Idealize.ShloMosaic.Tactic Idealize.SL.Sem
open Idealize.ShloMosaic.Pipeline (Dat Cfg Window)

/-! ## The reference's mathematics, line by line -/

section
variable (X : FVec Ideal S4096x4096 .f32) (W : FVec Ideal S4096x8192 .f32)

/-- The product, negative values at zero. -/
def pos : FVec Ideal S4096x8192 .f32 :=
  maximumf (Host.dotGeneral dot_S4096x4096_S4096x8192_S4096x8192_1_0_0_1_n_n none X W) (broadcastInDim S4096x8192 ![] bcast_S_S4096x8192 (constant S_ .f32 0x00000000#32))
/-- The scale: the largest absolute value over 448. -/
def scaleOf : FVec Ideal S_ .f32 :=
  Host.divf (Host.reduce FloatOps.maximumf (Host.absf (pos X W)) (constant S_ .f32 0xFF800000#32) reducesTo_S4096x8192_S_d0_1 h_S_) (constant S_ .f32 0x43E00000#32)
/-- The product in units of the scale. -/
def units : FVec Ideal S4096x8192 .f32 := Host.divf (pos X W) (broadcastInDim S4096x8192 ![] bcast_S_S4096x8192 (scaleOf X W))
/-- The magnitudes, clipped at 448. -/
def clipped : FVec Ideal S4096x8192 .f32 :=
  minimumf (Host.absf (units X W)) (broadcastInDim S4096x8192 ![] bcast_S_S4096x8192 (constant S_ .f32 0x43E00000#32))
/-- The result. -/
def result : FVec Ideal S4096x8192 .f32 :=
  mulf (mulf (Host.sign (units X W)) (clipped X W)) (broadcastInDim S4096x8192 ![] bcast_S_S4096x8192 (scaleOf X W))
end

/-! ## The run -/

variable (m : (ℓ : Loc nD τ sig) → Buf (Elt Ideal) ℓ) (ρ : Dev nD → PrngReg) (c : Dev nD)

/-- The two arguments. -/
abbrev argX : FVec Ideal S4096x4096 .f32 := m ((c : Thread nD τ).loc main_arg0)
abbrev argW : FVec Ideal S4096x8192 .f32 := m ((c : Thread nD τ).loc main_arg1)

theorem at_v5 : V m c main_v5 = scaleOf (argX m c) (argW m c) := by
  show StableHlo.after hostOps0 (fun b => m (c, b)) (Proc.devRef .tc main_v5) = _
  after_results
  rfl
theorem at_v7 : V m c main_v7 = units (argX m c) (argW m c) := by
  show StableHlo.after hostOps0 (fun b => m (c, b)) (Proc.devRef .tc main_v7) = _
  after_results
  rfl
theorem at_v8 : V m c main_v8 = Host.absf (units (argX m c) (argW m c)) := by
  show StableHlo.after hostOps0 (fun b => m (c, b)) (Proc.devRef .tc main_v8) = _
  after_results
  rfl

/-- The rounding's one block is its whole array. -/
theorem block_eq : iblk m c 0 t0_0 = V m c main_v8 := by
  funext i
  unfold iblk
  blk_simp
  refine congrArg (V m c main_v8) (funext fun a => Fin.ext ?_)
  fin_cases a <;> (blk_simp; simp; rfl)

/-- The result's window is one block too. -/
theorem whole_out : win0_1.WholeAt t0_0 :=
  ⟨flush0_1 t0_0, fun t _ => fin_N0 t, fun a => by fin_cases a <;> exact ⟨rfl, rfl⟩⟩

/-- Rounding to e4m3 and back is the identity over the extended reals. -/
theorem rounded (x : Vec Ideal S4096x8192 .f32) : out0_1 x = x := by
  unfold out0_1
  have e : (![0, 0] : Fin 2 → ℕ) = fun _ => 0 := by funext a; fin_cases a <;> rfl
  rw [View.canon_unit_zero e, View.ld_unit_zero e]
  unfold k0_pay1
  rw [shapeCast_self]
  rfl

/-- The rounding's result. -/
theorem at_v9 : (dats m 0 c).arrAt 1 cfg0.N = Host.absf (units (argX m c) (argW m c)) :=
  (dats m 0 c).arrAt_eq_of_after_last (1 : Fin 2) t0_0 whole_out _ fun j => by
    rw [after0_1, rounded, block_eq, at_v8]
    rfl

/-- The result's array at the end. -/
theorem at_v15 : Pipeline.afterTail₀ cfgs (dats m) 0 (V0 m) [hostOps1] c main_v15 = result (argX m c) (argW m c) := by
  show StableHlo.after hostOps1 (Pipeline.withArrays spec0 c (V0 m c) fun w => (dats m 0 c).arrAt w cfg0.N) (Proc.devRef .tc main_v15) = _
  after_results
  rw [Pipeline.withArrays_of_ne spec0 c (V0 m c) _ main_v7 (by decide), Pipeline.withArrays_of_ne spec0 c (V0 m c) _ main_v5 (by decide),
    show Pipeline.withArrays spec0 c (V0 m c) (fun w => (dats m 0 c).arrAt w cfg0.N) (Proc.devRef .tc main_v9) = (dats m 0 c).arrAt 1 cfg0.N from
      Pipeline.withArrays_arr spec0 (by decide) c (V0 m c) _ (1 : Fin 2),
    at_v9, show V0 m c (Proc.devRef .tc main_v7) = _ from at_v7 m c, show V0 m c (Proc.devRef .tc main_v5) = _ from at_v5 m c]
  rfl

/-- The reference ends, its result holds `result` of its arguments, and its arguments are unchanged. -/
theorem run_result : θ_run defs (onTc (τ := τ) (main (F := Ideal))) ⟨m, fun _ => 0, ρ⟩ (fun r => ∀ c : Dev nD,
      r.2.mem ((c.tc : Thread nD τ).loc main_v15) = result (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v15 (Pipeline.mem_restRefs_of main_v15 (by decide) (by decide))).trans (at_v15 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Cert.ReferenceIdeal.Plain

end
-- ==== Proof.RefValue.lean ====
/- The reference's result, entry by entry: the entry of the product, negative values at zero, put through the reference's quantiser. -/
module

public import proofs.«01_k».proof.Proof.Ref
public import proofs.«01_k».proof.Proof.Quant
public import Idealize.ShloMosaic.Lib.ValueIdx
public import Idealize.ShloMosaic.Lib.Pointwise.Contract
public import Idealize.ShloMosaic.PureOps.Reduce

@[expose] public section

noncomputable section

namespace Cert.ReferenceIdeal.Plain

open Cert.ReferenceIdeal Cert.ReferenceIdeal.Gen

open Idealize.ShloMosaic hiding ix2
open Idealize.ShloMosaic.ValueIdx

variable (X : FVec Ideal S4096x4096 .f32) (W : FVec Ideal S4096x8192 .f32)

/-- An entry of the product, or zero if that is negative. -/
def entry (R : Fin 4096) (J : Fin 8192) : EReal := max (∑ K : Fin 4096, X (ix2 R K) * W (ix2 K J)) 0

theorem entry_nonneg (R : Fin 4096) (J : Fin 8192) : 0 ≤ entry X W R J := le_max_right _ _

/-- The product, entry by entry. -/
theorem product_apply (R : Fin 4096) (J : Fin 8192) :
    (Host.dotGeneral dot_S4096x4096_S4096x8192_S4096x8192_1_0_0_1_n_n none X W : FVec Ideal S4096x8192 .f32) (ix2 R J) = ∑ K : Fin 4096, X (ix2 R K) * W (ix2 K J) := by
  show Ideal.matmul dot_S4096x4096_S4096x8192_S4096x8192_1_0_0_1_n_n X W (fun _ => 0) (ix2 R J) = _
  rw [Ideal.matmul_apply₁_of dot_S4096x4096_S4096x8192_S4096x8192_1_0_0_1_n_n (a := (1 : Fin 2)) rfl (K := 4096) rfl X W (fun _ => 0) (ix2 R J)
    (fun k => ix2 R k) (fun k => ix2 k J) (fun k => by funext a; match a with | 0 => rfl | 1 => rfl) (fun k => by funext a; match a with | 0 => rfl | 1 => rfl)]
  exact zero_add _

theorem pos_apply (R : Fin 4096) (J : Fin 8192) : pos X W (ix2 R J) = entry X W R J := by
  unfold entry
  rw [← product_apply]
  show max _ (Ideal.ofBits .f32 0x00000000#32) = _
  rw [Ideal.ofBits_zero_f32]

/-- The same at any index. -/
theorem pos_at (i : S4096x8192.Idx) : pos X W i = entry X W (i 0) (i 1) :=
  (congrArg (pos X W) (ValueIdx.eq_ix2 i)).trans (pos_apply X W (i 0) (i 1))

/-- The largest entry of all. -/
def largest : EReal := ⨆ R, ⨆ J, entry X W R J

theorem largest_le (b : EReal) : largest X W ≤ b ↔ ∀ R J, entry X W R J ≤ b := by
  unfold largest
  simp only [iSup_le_iff]

/-- The absolute value of what is not negative. -/
theorem abs_apply (i : S4096x8192.Idx) : (Host.absf (pos X W) : FVec Ideal S4096x8192 .f32) i = pos X W i := by
  have h : (0 : EReal) ≤ pos X W i := by
    rw [pos_at]
    exact entry_nonneg ..
  show max (pos X W i : EReal) (-pos X W i) = _
  have h' : -(pos X W i : EReal) ≤ 0 := by
    have := EReal.neg_le_neg_iff.mpr h
    rwa [neg_zero] at this
  exact max_eq_left (h'.trans h)

/-- The reduction over all the entries is the largest of them. -/
theorem reduced (j : S_.Idx) :
    (Host.reduce FloatOps.maximumf (Host.absf (pos X W)) (constant (F := Ideal) S_ .f32 0xFF800000#32) reducesTo_S4096x8192_S_d0_1 h_S_ : FVec Ideal S_ .f32) j = largest X W := by
  refine eq_of_forall_ge_iff (α := EReal) fun b => ?_
  rw [Host.reduce_eq_fold, Finset.filter_true_of_mem fun i _ => funext fun a => a.elim0]
  refine (Finset.fold_max_le (β := EReal) (f := Host.absf (pos X W)) (b := Ideal.ofBits .f32 0xFF800000#32) b).trans ?_
  rw [Cert.Quant.word_bot, largest_le]
  constructor
  · intro H R J
    have h := H.2 (ix2 R J) (Finset.mem_univ _)
    rwa [abs_apply, pos_apply] at h
  · intro H
    refine ⟨bot_le, fun i _ => ?_⟩
    rw [abs_apply, pos_at]
    exact H _ _

theorem scaleOf_apply (j : S_.Idx) : scaleOf X W j = Ideal.div (largest X W) ((448 : ℝ) : EReal) := by
  rw [← reduced X W j, ← Cert.Quant.word_448]
  rfl

/-- The result, entry by entry. -/
theorem result_apply (R : Fin 4096) (J : Fin 8192) : result X W (ix2 R J) = Cert.Quant.ref (largest X W) (entry X W R J) := by
  have hs (i : S4096x8192.Idx) : broadcastInDim S4096x8192 ![] bcast_S_S4096x8192 (scaleOf X W) i = Ideal.div (largest X W) ((448 : ℝ) : EReal) :=
    scaleOf_apply X W _
  have hu : units X W (ix2 R J) = Ideal.div (entry X W R J) (Ideal.div (largest X W) ((448 : ℝ) : EReal)) := by
    rw [← hs (ix2 R J), ← pos_apply]
    rfl
  unfold Cert.Quant.ref
  rw [← hu, ← Cert.Quant.word_448, Cert.Quant.word_448, ← hs (ix2 R J), ← Cert.Quant.word_448]
  rfl

end Cert.ReferenceIdeal.Plain

end
-- ==== Proof.Bridge.lean ====
/- The kernel's result and the reference's are one: the eight devices' shares add up to the whole product, and the two quantisers
   agree. -/
module

public import proofs.«01_k».proof.Proof.Out
public import proofs.«01_k».proof.Proof.Frame
public import proofs.«01_k».proof.Proof.RefValue
public import Idealize.ShloMosaic.Lib.Layout

@[expose] public section

noncomputable section

namespace Cert.Bridge

open Idealize.ShloMosaic hiding ix2
open Idealize.ShloMosaic.ValueIdx
open Cert.KernelIdeal.Ring (part relu rowAt amax amax_le devOf inDev rowAt_devOf out_apply relu_le relu_nonneg)
open Cert.ReferenceIdeal.Plain (entry largest largest_le result result_apply)

/-- The devices that hold the parts. -/
abbrev D : Type := Dev Cert.KernelIdeal.nD

-- the whole arrays, and their parts on the devices
variable (X : Vec Ideal ⟨2, ![4096, 4096]⟩ .f32) (W : Vec Ideal ⟨2, ![4096, 8192]⟩ .f32)
variable (xs : D → Vec Ideal ⟨2, ![4096, 512]⟩ .f32) (ws : D → Vec Ideal ⟨2, ![512, 8192]⟩ .f32)

/-! ## A device's part, entry by entry -/

/-- Device `d`'s columns of the first array. -/
theorem col_apply (h : Layout.Tiles ⟨2, ![4096, 512]⟩ ⟨2, ![4096, 4096]⟩ 1 8) (d : D) (R : Fin 4096) (k : Fin 512) :
    Layout.block ⟨2, ![4096, 512]⟩ ⟨2, ![4096, 4096]⟩ 1 8 d X h (ix2 R k) = X (ix2 R (rowAt d k)) := by
  rw [Layout.block_apply]
  refine congrArg X (funext fun a => Fin.ext ?_)
  rw [Layout.Tiles.idx_val]
  match a with
  | 0 => rfl
  | 1 => exact congrArg (· + k.val) (Nat.mul_comm d.val 512)

/-- Device `d`'s rows of the second, or of the result. -/
theorem row_apply (V : Vec Ideal ⟨2, ![4096, 8192]⟩ .f32) (h : Layout.Tiles ⟨2, ![512, 8192]⟩ ⟨2, ![4096, 8192]⟩ 0 8) (d : D) (r : Fin 512) (J : Fin 8192) :
    Layout.block ⟨2, ![512, 8192]⟩ ⟨2, ![4096, 8192]⟩ 0 8 d V h (ix2 r J) = V (ix2 (rowAt d r) J) := by
  rw [Layout.block_apply]
  refine congrArg V (funext fun a => Fin.ext ?_)
  rw [Layout.Tiles.idx_val]
  match a with
  | 0 => exact congrArg (· + r.val) (Nat.mul_comm d.val 512)
  | 1 => rfl

/-! ## The sum over the devices -/

/-- A device and a place in its part, as one number. -/
def pairs : D × Fin 512 ≃ Fin 4096 where
  toFun p := rowAt p.1 p.2
  invFun K := (devOf K, inDev K)
  left_inv p := by
    obtain ⟨d, k⟩ := p
    have hd : d.val < 8 := d.isLt
    have hk := k.isLt
    refine Prod.ext (Fin.ext ?_) (Fin.ext ?_)
    · show (512 * d.val + k.val) / 512 = d.val
      omega
    · show (512 * d.val + k.val) % 512 = k.val
      omega
  right_inv K := rowAt_devOf K

/-- A sum over the whole axis is the sum over the devices of the sums over their parts. -/
theorem sum_devices (f : Fin 4096 → EReal) : ∑ d : D, ∑ k : Fin 512, f (rowAt d k) = ∑ K, f K := by
  rw [← Fintype.sum_prod_type' (fun d k => f (rowAt d k))]
  exact Equiv.sum_comp pairs f

variable (hx : ∀ d R k, xs d (ix2 R k) = X (ix2 R (rowAt d k))) (hw : ∀ d k J, ws d (ix2 k J) = W (ix2 (rowAt d k) J))

include hx hw

/-- The ring's sum is the product's entry. -/
theorem relu_eq (R : Fin 4096) (J : Fin 8192) : relu xs ws R J = entry X W R J := by
  unfold relu entry part
  rw [← sum_devices fun K => X (ix2 R K) * W (ix2 K J)]
  refine congrArg (max · 0) (Finset.sum_congr rfl fun d _ => Finset.sum_congr rfl fun k _ => ?_)
  rw [hx, hw]

/-- The devices' largest entry is the reference's. -/
theorem amax_eq : amax xs ws = largest X W := by
  refine eq_of_forall_ge_iff fun b => ?_
  rw [amax_le, largest_le]
  simp only [relu_eq X W xs ws hx hw]

/-- Each device's result is its rows of the reference's. -/
theorem out_eq (h : Layout.Tiles ⟨2, ![512, 8192]⟩ ⟨2, ![4096, 8192]⟩ 0 8) (c : D) :
    Cert.KernelIdeal.Ring.glue (Cert.KernelIdeal.Ring.outAll xs ws c) = Layout.block ⟨2, ![512, 8192]⟩ ⟨2, ![4096, 8192]⟩ 0 8 c (result X W) h := by
  funext i
  obtain ⟨r, J, rfl⟩ : ∃ (r : Fin 512) (J : Fin 8192), i = ix2 r J := ⟨i 0, i 1, ValueIdx.eq_ix2 i⟩
  refine (out_apply xs ws c r J).trans (Eq.trans ?_ (row_apply (result X W) h c r J).symm)
  refine Eq.trans ?_ (result_apply X W (rowAt c r) J).symm
  rw [Cert.Quant.ker_eq_ref _ _ (relu_nonneg xs ws _ _) (relu_le xs ws _ _), amax_eq X W xs ws hx hw, relu_eq X W xs ws hx hw]

end Cert.Bridge

end
-- ==== Proof.lean ====
/- The five claims, put together from the frames of the three programs and the comparison of values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.Kernel.Frame
public import proofs.«01_k».proof.Proof.Bridge
public import Idealize.ShloMosaic.Adequacy
public import Idealize.ShloMosaic.Init

@[expose] public section

noncomputable section

namespace Cert.Proof

open Idealize.ShloMosaic Idealize.SL.Sem Cert.Kernel

/-- The kernel, at the machine's words: every execution ends, the arguments are unchanged and every semaphore is at zero. -/
theorem frame_kernel : Cert.quiescent_Kernel := fun m ρ _ => Cert.Kernel.Ring.frame (F := Bits) m ρ

/-- The same of the kernel over the extended reals. -/
theorem frame_kernelIdeal : Cert.quiescent_KernelIdeal := fun m ρ _ => Cert.KernelIdeal.Ring.frame (F := Ideal) m ρ

/-- The same of the reference over the extended reals. -/
theorem frame_referenceIdeal : Cert.quiescent_ReferenceIdeal := fun m ρ _ => Cert.ReferenceIdeal.Gen.frame (F := Ideal) m ρ

/-- The ideal kernel is the kernel with nothing rewritten. -/
theorem preserves_kernel : Cert.preserves_Kernel_KernelIdeal := trivial

/-- The device's result is its rows of the reference's result, when its inputs are its parts of the reference's. -/
theorem outs_eq (m : (ℓ : Loc Cert.KernelIdeal.nD Cert.KernelIdeal.τ Cert.KernelIdeal.sig) → Buf (Elt Ideal) ℓ)
    (X : Vec Ideal ⟨2, ![4096, 4096]⟩ .f32) (W : Vec Ideal ⟨2, ![4096, 8192]⟩ .f32)
    (hX : Layout.Tiles ⟨2, ![4096, 512]⟩ ⟨2, ![4096, 4096]⟩ 1 8) (hW : Layout.Tiles ⟨2, ![512, 8192]⟩ ⟨2, ![4096, 8192]⟩ 0 8)
    (h : ∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c X hX
      ∧ m ((c.tc : Thread Cert.KernelIdeal.nD Cert.KernelIdeal.τ).loc Cert.KernelIdeal.main_arg1) = Layout.block ⟨2, ![512, 8192]⟩ ⟨2, ![4096, 8192]⟩ 0 8 c W hW)
    (c : Dev Cert.KernelIdeal.nD) :
    Cert.KernelIdeal.Ring.outs m c = Layout.block ⟨2, ![512, 8192]⟩ ⟨2, ![4096, 8192]⟩ 0 8 c (Cert.ReferenceIdeal.Plain.result X W) hW :=
  Cert.Bridge.out_eq X W (Cert.KernelIdeal.Ring.xs m) (Cert.KernelIdeal.Ring.ws m)
    (fun d R k => (congrFun ((Cert.KernelIdeal.Ring.xs_eq m d).trans (h d).1) _).trans (Cert.Bridge.col_apply X hX d R k))
    (fun d k J => (congrFun ((Cert.KernelIdeal.Ring.ws_eq m d).trans (h d).2) _).trans (Cert.Bridge.row_apply W hW d k J)) hW c

/-- Over the extended reals the kernel computes the reference: from inputs cut up over the devices, each device ends with its rows of
    the reference's result. -/
theorem algebraic_kernel : Cert.algebraic_KernelIdeal_ReferenceIdeal := fun m ρ m' ρ' _ h =>
  ⟨_, (θ_run _ _ _).mono (fun _ hr c => ⟨(hr.1 c).1.trans (outs_eq m _ _ _ _ h c), (hr.1 c).2⟩) (Cert.KernelIdeal.Ring.run_result (F := Ideal) m ρ),
    (θ_run _ _ _).mono (fun _ hr => hr 0) (Cert.ReferenceIdeal.Plain.run_result m' ρ')⟩

/-- All five claims. -/
theorem claim : Cert.Claim := ⟨Cert.Kernel.Gen.facts, Cert.KernelIdeal.Gen.facts, Cert.ReferenceIdeal.Gen.facts,
  frame_kernel, frame_kernelIdeal, frame_referenceIdeal, preserves_kernel, algebraic_kernel⟩

end Cert.Proof

end
